-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codebooks_finite [hPre_codebooks_finite : Cert.Pre_codebooks_finite.Facts] (m : (ℓ : Loc Cert.KernelIdeal.nD Cert.KernelIdeal.τ Cert.KernelIdeal.sig) → Buf (Elt Ideal) ℓ) : Prop :=
  ∀ c : Dev Cert.KernelIdeal.nD,
    (Cert.Pre_codebooks_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codebooks_finite [hPre_codebooks_finite : Cert.Pre_codebooks_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codebooks_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_codebooks_finite [hKernelIdeal : Cert.KernelIdeal.Facts] [hPre_codebooks_finite : Cert.Pre_codebooks_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codebooks_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_codebooks_finite [hReferenceIdeal : Cert.ReferenceIdeal.Facts] [hPre_codebooks_finite : Cert.Pre_codebooks_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codebooks_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_codebooks_finite [hKernelIdeal : Cert.KernelIdeal.Facts] [hReferenceIdeal : Cert.ReferenceIdeal.Facts] [hPre_codebooks_finite : Cert.Pre_codebooks_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codebooks_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_codebooks_finite : Cert.Pre_codebooks_finite.Facts),
    quiescent_Kernel (hKernel := hKernel)
    ∧ quiescent_KernelIdeal (hKernelIdeal := hKernelIdeal)
    ∧ quiescent_KernelIdeal_pre_codebooks_finite (hKernelIdeal := hKernelIdeal) (hPre_codebooks_finite := hPre_codebooks_finite)
    ∧ quiescent_ReferenceIdeal (hReferenceIdeal := hReferenceIdeal)
    ∧ quiescent_ReferenceIdeal_pre_codebooks_finite (hReferenceIdeal := hReferenceIdeal) (hPre_codebooks_finite := hPre_codebooks_finite)
    ∧ preserves_Kernel_KernelIdeal
    ∧ algebraic_KernelIdeal_ReferenceIdeal_pre_codebooks_finite (hKernelIdeal := hKernelIdeal) (hReferenceIdeal := hReferenceIdeal) (hPre_codebooks_finite := hPre_codebooks_finite)
-- ==== Pre_codebooks_finite.lean ====
abbrev S8x1024x256 : Shape := ⟨3, ![8, 1024, 256]⟩
abbrev S_ : Shape := ⟨0, ![]⟩

class Facts : Prop where
  bcast_S_S8x1024x256 : S_.BroadcastsInDim S8x1024x256 (![] : Fin 0 → Fin S8x1024x256.rank)

variable [Facts]

def fn {F : FTy → Type} [FloatOps F] (main_arg0 : FVec F S8x1024x256 .f32) (main_arg1 : FVec F S8x1024x256 .f32) : IVec S8x1024x256 1 :=
  let main_cst : FVec F S_ .f32 := constant S_ .f32 0x7F800000#32
  let main_v0 : FVec F S8x1024x256 .f32 := broadcastInDim S8x1024x256 ![] bcast_S_S8x1024x256 main_cst
  let main_v1 : IVec S8x1024x256 1 := cmpf .olt main_arg1 main_v0
  let main_cst_0 : FVec F S_ .f32 := constant S_ .f32 0xFF800000#32
  let main_v2 : FVec F S8x1024x256 .f32 := broadcastInDim S8x1024x256 ![] bcast_S_S8x1024x256 main_cst_0
  let main_v3 : IVec S8x1024x256 1 := cmpf .ogt main_arg1 main_v2
  let main_v4 : IVec S8x1024x256 1 := andi main_v1 main_v3
  main_v4
-- ==== Kernel.lean ====
abbrev S8x1024x256 : Shape := ⟨3, ![8, 1024, 256]⟩
abbrev S8192x256 : Shape := ⟨2, ![8192, 256]⟩
abbrev S8192x8 : Shape := ⟨2, ![8192, 8]⟩
abbrev S4x1x8 : Shape := ⟨3, ![4, 1, 8]⟩
abbrev S2048x256 : Shape := ⟨2, ![2048, 256]⟩
abbrev S2048x8 : Shape := ⟨2, ![2048, 8]⟩
abbrev S1x1x8 : Shape := ⟨3, ![1, 1, 8]⟩
abbrev S1x1024x256 : Shape := ⟨3, ![1, 1024, 256]⟩
abbrev S1024x256 : Shape := ⟨2, ![1024, 256]⟩
abbrev S256x1024 : Shape := ⟨2, ![256, 1024]⟩
abbrev S8x1024 : Shape := ⟨2, ![8, 1024]⟩
abbrev S4x1024 : Shape := ⟨2, ![4, 1024]⟩
abbrev S2x1024 : Shape := ⟨2, ![2, 1024]⟩
abbrev S1x1024 : Shape := ⟨2, ![1, 1024]⟩
abbrev S256x2048 : Shape := ⟨2, ![256, 2048]⟩
abbrev S8x2048 : Shape := ⟨2, ![8, 2048]⟩
abbrev S4x2048 : Shape := ⟨2, ![4, 2048]⟩
abbrev S2x2048 : Shape := ⟨2, ![2, 2048]⟩
abbrev S1x2048 : Shape := ⟨2, ![1, 2048]⟩
abbrev S2048x1 : Shape := ⟨2, ![2048, 1]⟩
abbrev S2048x1024 : Shape := ⟨2, ![2048, 1024]⟩
abbrev S2048 : Shape := ⟨1, ![2048]⟩
abbrev S2048x3072 : Shape := ⟨2, ![2048, 3072]⟩
abbrev S3072x256 : Shape := ⟨2, ![3072, 256]⟩
abbrev S1x2048x256 : Shape := ⟨3, ![1, 2048, 256]⟩
abbrev S1 : Shape := ⟨1, ![1]⟩
abbrev S1x1x1 : Shape := ⟨3, ![1, 1, 1]⟩
abbrev S8 : Shape := ⟨1, ![8]⟩
abbrev S8x1024x8 : Shape := ⟨3, ![8, 1024, 8]⟩
abbrev S_ : Shape := ⟨0, ![]⟩
abbrev S1x8 : Shape := ⟨2, ![1, 8]⟩

abbrev nBuf : Space → Nat
  | .hbm => 14
  | .vmem => 9
  | .smem => 0
  | _ => 0

abbrev bufTy : (tb : Table) → Fin (tcTables nBuf tb) → BufTy
  | .hbm, ⟨0, _⟩ => ⟨S8x1024x256, .f32⟩
  | .hbm, ⟨1, _⟩ => ⟨S8x1024x256, .f32⟩
  | .hbm, ⟨2, _⟩ => ⟨S8192x256, .f32⟩
  | .hbm, ⟨3, _⟩ => ⟨S8192x256, .f32⟩
  | .hbm, ⟨4, _⟩ => ⟨S8192x8, .i32⟩
  | .hbm, ⟨5, _⟩ => ⟨S4x1x8, .f32⟩
  | .hbm, ⟨6, _⟩ => ⟨S8x1024x256, .f32⟩
  | .hbm, ⟨7, _⟩ => ⟨S8x1024x8, .i32⟩
  | .hbm, ⟨8, _⟩ => ⟨S_, .f32⟩
  | .hbm, ⟨9, _⟩ => ⟨S1x8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .local _ .vmem, ⟨0, _⟩ => ⟨S2048x256, .f32⟩
  | .local _ .vmem, ⟨1, _⟩ => ⟨S2048x256, .f32⟩
  | .local _ .vmem, ⟨2, _⟩ => ⟨S8x1024x256, .f32⟩
  | .local _ .vmem, ⟨3, _⟩ => ⟨S2048x256, .f32⟩
  | .local _ .vmem, ⟨4, _⟩ => ⟨S2048x256, .f32⟩
  | .local _ .vmem, ⟨5, _⟩ => ⟨S2048x8, .i32⟩
  | .local _ .vmem, ⟨6, _⟩ => ⟨S2048x8, .i32⟩
  | .local _ .vmem, ⟨7, _⟩ => ⟨S1x1x8, .f32⟩
  | .local _ .vmem, ⟨8, _⟩ => ⟨S1x1x8, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x1024x256 : Shape := ⟨3, ![8, 1024, 256]⟩
abbrev S_ : Shape := ⟨0, ![]⟩
abbrev S1x1024x256 : Shape := ⟨3, ![1, 1024, 256]⟩
abbrev S1024x256 : Shape := ⟨2, ![1024, 256]⟩
abbrev S8192x256 : Shape := ⟨2, ![8192, 256]⟩
abbrev S8192 : Shape := ⟨1, ![8192]⟩
abbrev S8192x1 : Shape := ⟨2, ![8192, 1]⟩
abbrev S256x1024 : Shape := ⟨2, ![256, 1024]⟩
abbrev S8192x1024 : Shape := ⟨2, ![8192, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S8x1024 : Shape := ⟨2, ![8, 1024]⟩
abbrev S8x1024x1 : Shape := ⟨3, ![8, 1024, 1]⟩
abbrev S8x1024x8 : Shape := ⟨3, ![8, 1024, 8]⟩
abbrev S8 : Shape := ⟨1, ![8]⟩

abbrev nBuf : Space → Nat
  | .hbm => 502
  | .vmem => 0
  | .smem => 0
  | _ => 0

abbrev hbmTy0_0 (i : Nat) : BufTy := match i % 128 with
  | 0 => ⟨S8x1024x256, .f32⟩
  | 1 => ⟨S8x1024x256, .f32⟩
  | 2 => ⟨S_, .f32⟩
  | 3 => ⟨S8x1024x256, .f32⟩
  | 4 => ⟨S1x1024x256, .f32⟩
  | 5 => ⟨S1024x256, .f32⟩
  | 6 => ⟨S8192x256, .f32⟩
  | 7 => ⟨S8192x256, .f32⟩
  | 8 => ⟨S_, .f32⟩
  | 9 => ⟨S8192, .f32⟩
  | 10 => ⟨S8192x1, .f32⟩
  | 11 => ⟨S_, .f32⟩
  | 12 => ⟨S8192x256, .f32⟩
  | 13 => ⟨S8192x256, .f32⟩
  | 14 => ⟨S256x1024, .f32⟩
  | 15 => ⟨S8192x1024, .f32⟩
  | 16 => ⟨S8192x1024, .f32⟩
  | 17 => ⟨S8192x1024, .f32⟩
  | 18 => ⟨S1024x256, .f32⟩
  | 19 => ⟨S_, .f32⟩
  | 20 => ⟨S1024, .f32⟩
  | 21 => ⟨S1x1024, .f32⟩
  | 22 => ⟨S8192x1024, .f32⟩
  | 23 => ⟨S8192x1024, .f32⟩
  | 24 => ⟨S8192x1024, .i32⟩
  | 25 => ⟨S_, .f32⟩
  | 26 => ⟨S_, .i32⟩
  | 27 => ⟨S8192, .f32⟩
  | 28 => ⟨S8192, .i32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S8192x1, .i32⟩
  | 37 => ⟨S1, .i32⟩
  | 38 => ⟨S_, .i32⟩
  | 39 => ⟨S8192x1, .i32⟩
  | 40 => ⟨S8192x1, .i1⟩
  | 41 => ⟨S1x1, .i32⟩
  | 42 => ⟨S8192x1, .i32⟩
  | 43 => ⟨S8192x1, .i1⟩
  | 44 => ⟨S8192x1, .i1⟩
  | 45 => ⟨S_, .i1⟩
  | 46 => ⟨S8192, .i1⟩
  | 47 => ⟨S8192x256, .f32⟩
  | 48 => ⟨S8192x256, .i1⟩
  | 49 => ⟨S_, .f32⟩
  | 50 => ⟨S8192x256, .f32⟩
  | 51 => ⟨S8192x256, .f32⟩
  | 52 => ⟨S8x1024x256, .f32⟩
  | 53 => ⟨S8x1024x256, .f32⟩
  | 54 => ⟨S8x1024x256, .f32⟩
  | 55 => ⟨S_, .f32⟩
  | 56 => ⟨S_, .f32⟩
  | 57 => ⟨S_, .f32⟩
  | 58 => ⟨S_, .f32⟩
  | 59 => ⟨S8x1024x256, .f32⟩
  | 60 => ⟨S8x1024x256, .f32⟩
  | 61 => ⟨S8x1024, .i32⟩
  | 62 => ⟨S8x1024x256, .f32⟩
  | 63 => ⟨S8x1024x256, .f32⟩
  | 64 => ⟨S1x1024x256, .f32⟩
  | 65 => ⟨S1024x256, .f32⟩
  | 66 => ⟨S8192x256, .f32⟩
  | 67 => ⟨S8192x256, .f32⟩
  | 68 => ⟨S_, .f32⟩
  | 69 => ⟨S8192, .f32⟩
  | 70 => ⟨S8192x1, .f32⟩
  | 71 => ⟨S_, .f32⟩
  | 72 => ⟨S8192x256, .f32⟩
  | 73 => ⟨S8192x256, .f32⟩
  | 74 => ⟨S256x1024, .f32⟩
  | 75 => ⟨S8192x1024, .f32⟩
  | 76 => ⟨S8192x1024, .f32⟩
  | 77 => ⟨S8192x1024, .f32⟩
  | 78 => ⟨S1024x256, .f32⟩
  | 79 => ⟨S_, .f32⟩
  | 80 => ⟨S1024, .f32⟩
  | 81 => ⟨S1x1024, .f32⟩
  | 82 => ⟨S8192x1024, .f32⟩
  | 83 => ⟨S8192x1024, .f32⟩
  | 84 => ⟨S8192x1024, .i32⟩
  | 85 => ⟨S_, .f32⟩
  | 86 => ⟨S_, .i32⟩
  | 87 => ⟨S8192, .f32⟩
  | 88 => ⟨S8192, .i32⟩
  | 89 => ⟨S_, .i32⟩
  | 90 => ⟨S8192, .i32⟩
  | 91 => ⟨S8192, .i1⟩
  | 92 => ⟨S_, .i32⟩
  | 93 => ⟨S8192, .i32⟩
  | 94 => ⟨S8192, .i32⟩
  | 95 => ⟨S8192, .i32⟩
  | 96 => ⟨S8192x1, .i32⟩
  | 97 => ⟨S1, .i32⟩
  | 98 => ⟨S_, .i32⟩
  | 99 => ⟨S8192x1, .i32⟩
  | 100 => ⟨S8192x1, .i1⟩
  | 101 => ⟨S1x1, .i32⟩
  | 102 => ⟨S8192x1, .i32⟩
  | 103 => ⟨S8192x1, .i1⟩
  | 104 => ⟨S8192x1, .i1⟩
  | 105 => ⟨S_, .i1⟩
  | 106 => ⟨S8192, .i1⟩
  | 107 => ⟨S8192x256, .f32⟩
  | 108 => ⟨S8192x256, .i1⟩
  | 109 => ⟨S_, .f32⟩
  | 110 => ⟨S8192x256, .f32⟩
  | 111 => ⟨S8192x256, .f32⟩
  | 112 => ⟨S8x1024x256, .f32⟩
  | 113 => ⟨S8x1024x256, .f32⟩
  | 114 => ⟨S8x1024x256, .f32⟩
  | 115 => ⟨S_, .f32⟩
  | 116 => ⟨S_, .f32⟩
  | 117 => ⟨S_, .f32⟩
  | 118 => ⟨S_, .f32⟩
  | 119 => ⟨S8x1024x256, .f32⟩
  | 120 => ⟨S8x1024x256, .f32⟩
  | 121 => ⟨S8x1024, .i32⟩
  | 122 => ⟨S8x1024x256, .f32⟩
  | 123 => ⟨S8x1024x256, .f32⟩
  | 124 => ⟨S1x1024x256, .f32⟩
  | 125 => ⟨S1024x256, .f32⟩
  | 126 => ⟨S8192x256, .f32⟩
  | 127 => ⟨S8192x256, .f32⟩
  | _ => ⟨S8x1024x256, .f32⟩

abbrev hbmTy0_1 (i : Nat) : BufTy := match i % 128 with
  | 0 => ⟨S_, .f32⟩
  | 1 => ⟨S8192, .f32⟩
  | 2 => ⟨S8192x1, .f32⟩
  | 3 => ⟨S_, .f32⟩
  | 4 => ⟨S8192x256, .f32⟩
  | 5 => ⟨S8192x256, .f32⟩
  | 6 => ⟨S256x1024, .f32⟩
  | 7 => ⟨S8192x1024, .f32⟩
  | 8 => ⟨S8192x1024, .f32⟩
  | 9 => ⟨S8192x1024, .f32⟩
  | 10 => ⟨S1024x256, .f32⟩
  | 11 => ⟨S_, .f32⟩
  | 12 => ⟨S1024, .f32⟩
  | 13 => ⟨S1x1024, .f32⟩
  | 14 => ⟨S8192x1024, .f32⟩
  | 15 => ⟨S8192x1024, .f32⟩
  | 16 => ⟨S8192x1024, .i32⟩
  | 17 => ⟨S_, .f32⟩
  | 18 => ⟨S_, .i32⟩
  | 19 => ⟨S8192, .f32⟩
  | 20 => ⟨S8192, .i32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S1, .i32⟩
  | 30 => ⟨S_, .i32⟩
  | 31 => ⟨S8192x1, .i32⟩
  | 32 => ⟨S8192x1, .i1⟩
  | 33 => ⟨S1x1, .i32⟩
  | 34 => ⟨S8192x1, .i32⟩
  | 35 => ⟨S8192x1, .i1⟩
  | 36 => ⟨S8192x1, .i1⟩
  | 37 => ⟨S_, .i1⟩
  | 38 => ⟨S8192, .i1⟩
  | 39 => ⟨S8192x256, .f32⟩
  | 40 => ⟨S8192x256, .i1⟩
  | 41 => ⟨S_, .f32⟩
  | 42 => ⟨S8192x256, .f32⟩
  | 43 => ⟨S8192x256, .f32⟩
  | 44 => ⟨S8x1024x256, .f32⟩
  | 45 => ⟨S8x1024x256, .f32⟩
  | 46 => ⟨S8x1024x256, .f32⟩
  | 47 => ⟨S_, .f32⟩
  | 48 => ⟨S_, .f32⟩
  | 49 => ⟨S_, .f32⟩
  | 50 => ⟨S_, .f32⟩
  | 51 => ⟨S8x1024x256, .f32⟩
  | 52 => ⟨S8x1024x256, .f32⟩
  | 53 => ⟨S8x1024, .i32⟩
  | 54 => ⟨S8x1024x256, .f32⟩
  | 55 => ⟨S8x1024x256, .f32⟩
  | 56 => ⟨S1x1024x256, .f32⟩
  | 57 => ⟨S1024x256, .f32⟩
  | 58 => ⟨S8192x256, .f32⟩
  | 59 => ⟨S8192x256, .f32⟩
  | 60 => ⟨S_, .f32⟩
  | 61 => ⟨S8192, .f32⟩
  | 62 => ⟨S8192x1, .f32⟩
  | 63 => ⟨S_, .f32⟩
  | 64 => ⟨S8192x256, .f32⟩
  | 65 => ⟨S8192x256, .f32⟩
  | 66 => ⟨S256x1024, .f32⟩
  | 67 => ⟨S8192x1024, .f32⟩
  | 68 => ⟨S8192x1024, .f32⟩
  | 69 => ⟨S8192x1024, .f32⟩
  | 70 => ⟨S1024x256, .f32⟩
  | 71 => ⟨S_, .f32⟩
  | 72 => ⟨S1024, .f32⟩
  | 73 => ⟨S1x1024, .f32⟩
  | 74 => ⟨S8192x1024, .f32⟩
  | 75 => ⟨S8192x1024, .f32⟩
  | 76 => ⟨S8192x1024, .i32⟩
  | 77 => ⟨S_, .f32⟩
  | 78 => ⟨S_, .i32⟩
  | 79 => ⟨S8192, .f32⟩
  | 80 => ⟨S8192, .i32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S1, .i32⟩
  | 90 => ⟨S_, .i32⟩
  | 91 => ⟨S8192x1, .i32⟩
  | 92 => ⟨S8192x1, .i1⟩
  | 93 => ⟨S1x1, .i32⟩
  | 94 => ⟨S8192x1, .i32⟩
  | 95 => ⟨S8192x1, .i1⟩
  | 96 => ⟨S8192x1, .i1⟩
  | 97 => ⟨S_, .i1⟩
  | 98 => ⟨S8192, .i1⟩
  | 99 => ⟨S8192x256, .f32⟩
  | 100 => ⟨S8192x256, .i1⟩
  | 101 => ⟨S_, .f32⟩
  | 102 => ⟨S8192x256, .f32⟩
  | 103 => ⟨S8192x256, .f32⟩
  | 104 => ⟨S8x1024x256, .f32⟩
  | 105 => ⟨S8x1024x256, .f32⟩
  | 106 => ⟨S8x1024x256, .f32⟩
  | 107 => ⟨S_, .f32⟩
  | 108 => ⟨S_, .f32⟩
  | 109 => ⟨S_, .f32⟩
  | 110 => ⟨S_, .f32⟩
  | 111 => ⟨S8x1024x256, .f32⟩
  | 112 => ⟨S8x1024x256, .f32⟩
  | 113 => ⟨S8x1024, .i32⟩
  | 114 => ⟨S8x1024x256, .f32⟩
  | 115 => ⟨S8x1024x256, .f32⟩
  | 116 => ⟨S1x1024x256, .f32⟩
  | 117 => ⟨S1024x256, .f32⟩
  | 118 => ⟨S8192x256, .f32⟩
  | 119 => ⟨S8192x256, .f32⟩
  | 120 => ⟨S_, .f32⟩
  | 121 => ⟨S8192, .f32⟩
  | 122 => ⟨S8192x1, .f32⟩
  | 123 => ⟨S_, .f32⟩
  | 124 => ⟨S8192x256, .f32⟩
  | 125 => ⟨S8192x256, .f32⟩
  | 126 => ⟨S256x1024, .f32⟩
  | 127 => ⟨S8192x1024, .f32⟩
  | _ => ⟨S8x1024x256, .f32⟩

abbrev hbmTy0_2 (i : Nat) : BufTy := match i % 128 with
  | 0 => ⟨S8192x1024, .f32⟩
  | 1 => ⟨S8192x1024, .f32⟩
  | 2 => ⟨S1024x256, .f32⟩
  | 3 => ⟨S_, .f32⟩
  | 4 => ⟨S1024, .f32⟩
  | 5 => ⟨S1x1024, .f32⟩
  | 6 => ⟨S8192x1024, .f32⟩
  | 7 => ⟨S8192x1024, .f32⟩
  | 8 => ⟨S8192x1024, .i32⟩
  | 9 => ⟨S_, .f32⟩
  | 10 => ⟨S_, .i32⟩
  | 11 => ⟨S8192, .f32⟩
  | 12 => ⟨S8192, .i32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S8192x1, .i32⟩
  | 21 => ⟨S1, .i32⟩
  | 22 => ⟨S_, .i32⟩
  | 23 => ⟨S8192x1, .i32⟩
  | 24 => ⟨S8192x1, .i1⟩
  | 25 => ⟨S1x1, .i32⟩
  | 26 => ⟨S8192x1, .i32⟩
  | 27 => ⟨S8192x1, .i1⟩
  | 28 => ⟨S8192x1, .i1⟩
  | 29 => ⟨S_, .i1⟩
  | 30 => ⟨S8192, .i1⟩
  | 31 => ⟨S8192x256, .f32⟩
  | 32 => ⟨S8192x256, .i1⟩
  | 33 => ⟨S_, .f32⟩
  | 34 => ⟨S8192x256, .f32⟩
  | 35 => ⟨S8192x256, .f32⟩
  | 36 => ⟨S8x1024x256, .f32⟩
  | 37 => ⟨S8x1024x256, .f32⟩
  | 38 => ⟨S8x1024x256, .f32⟩
  | 39 => ⟨S_, .f32⟩
  | 40 => ⟨S_, .f32⟩
  | 41 => ⟨S_, .f32⟩
  | 42 => ⟨S_, .f32⟩
  | 43 => ⟨S8x1024x256, .f32⟩
  | 44 => ⟨S8x1024x256, .f32⟩
  | 45 => ⟨S8x1024, .i32⟩
  | 46 => ⟨S8x1024x256, .f32⟩
  | 47 => ⟨S8x1024x256, .f32⟩
  | 48 => ⟨S1x1024x256, .f32⟩
  | 49 => ⟨S1024x256, .f32⟩
  | 50 => ⟨S8192x256, .f32⟩
  | 51 => ⟨S8192x256, .f32⟩
  | 52 => ⟨S_, .f32⟩
  | 53 => ⟨S8192, .f32⟩
  | 54 => ⟨S8192x1, .f32⟩
  | 55 => ⟨S_, .f32⟩
  | 56 => ⟨S8192x256, .f32⟩
  | 57 => ⟨S8192x256, .f32⟩
  | 58 => ⟨S256x1024, .f32⟩
  | 59 => ⟨S8192x1024, .f32⟩
  | 60 => ⟨S8192x1024, .f32⟩
  | 61 => ⟨S8192x1024, .f32⟩
  | 62 => ⟨S1024x256, .f32⟩
  | 63 => ⟨S_, .f32⟩
  | 64 => ⟨S1024, .f32⟩
  | 65 => ⟨S1x1024, .f32⟩
  | 66 => ⟨S8192x1024, .f32⟩
  | 67 => ⟨S8192x1024, .f32⟩
  | 68 => ⟨S8192x1024, .i32⟩
  | 69 => ⟨S_, .f32⟩
  | 70 => ⟨S_, .i32⟩
  | 71 => ⟨S8192, .f32⟩
  | 72 => ⟨S8192, .i32⟩
  | 73 => ⟨S_, .i32⟩
  | 74 => ⟨S8192, .i32⟩
  | 75 => ⟨S8192, .i1⟩
  | 76 => ⟨S_, .i32⟩
  | 77 => ⟨S8192, .i32⟩
  | 78 => ⟨S8192, .i32⟩
  | 79 => ⟨S8192, .i32⟩
  | 80 => ⟨S8192x1, .i32⟩
  | 81 => ⟨S1, .i32⟩
  | 82 => ⟨S_, .i32⟩
  | 83 => ⟨S8192x1, .i32⟩
  | 84 => ⟨S8192x1, .i1⟩
  | 85 => ⟨S1x1, .i32⟩
  | 86 => ⟨S8192x1, .i32⟩
  | 87 => ⟨S8192x1, .i1⟩
  | 88 => ⟨S8192x1, .i1⟩
  | 89 => ⟨S_, .i1⟩
  | 90 => ⟨S8192, .i1⟩
  | 91 => ⟨S8192x256, .f32⟩
  | 92 => ⟨S8192x256, .i1⟩
  | 93 => ⟨S_, .f32⟩
  | 94 => ⟨S8192x256, .f32⟩
  | 95 => ⟨S8192x256, .f32⟩
  | 96 => ⟨S8x1024x256, .f32⟩
  | 97 => ⟨S8x1024x256, .f32⟩
  | 98 => ⟨S8x1024x256, .f32⟩
  | 99 => ⟨S_, .f32⟩
  | 100 => ⟨S_, .f32⟩
  | 101 => ⟨S_, .f32⟩
  | 102 => ⟨S_, .f32⟩
  | 103 => ⟨S8x1024x256, .f32⟩
  | 104 => ⟨S8x1024x256, .f32⟩
  | 105 => ⟨S8x1024, .i32⟩
  | 106 => ⟨S8x1024x256, .f32⟩
  | 107 => ⟨S8x1024x256, .f32⟩
  | 108 => ⟨S1x1024x256, .f32⟩
  | 109 => ⟨S1024x256, .f32⟩
  | 110 => ⟨S8192x256, .f32⟩
  | 111 => ⟨S8192x256, .f32⟩
  | 112 => ⟨S_, .f32⟩
  | 113 => ⟨S8192, .f32⟩
  | 114 => ⟨S8192x1, .f32⟩
  | 115 => ⟨S_, .f32⟩
  | 116 => ⟨S8192x256, .f32⟩
  | 117 => ⟨S8192x256, .f32⟩
  | 118 => ⟨S256x1024, .f32⟩
  | 119 => ⟨S8192x1024, .f32⟩
  | 120 => ⟨S8192x1024, .f32⟩
  | 121 => ⟨S8192x1024, .f32⟩
  | 122 => ⟨S1024x256, .f32⟩
  | 123 => ⟨S_, .f32⟩
  | 124 => ⟨S1024, .f32⟩
  | 125 => ⟨S1x1024, .f32⟩
  | 126 => ⟨S8192x1024, .f32⟩
  | 127 => ⟨S8192x1024, .f32⟩
  | _ => ⟨S8x1024x256, .f32⟩

abbrev hbmTy0_3 (i : Nat) : BufTy := match i % 128 with
  | 0 => ⟨S8192x1024, .i32⟩
  | 1 => ⟨S_, .f32⟩
  | 2 => ⟨S_, .i32⟩
  | 3 => ⟨S8192, .f32⟩
  | 4 => ⟨S8192, .i32⟩
  | 5 => ⟨S_, .i32⟩
  | 6 => ⟨S8192, .i32⟩
  | 7 => ⟨S8192, .i1⟩
  | 8 => ⟨S_, .i32⟩
  | 9 => ⟨S8192, .i32⟩
  | 10 => ⟨S8192, .i32⟩
  | 11 => ⟨S8192, .i32⟩
  | 12 => ⟨S8192x1, .i32⟩
  | 13 => ⟨S1, .i32⟩
  | 14 => ⟨S_, .i32⟩
  | 15 => ⟨S8192x1, .i32⟩
  | 16 => ⟨S8192x1, .i1⟩
  | 17 => ⟨S1x1, .i32⟩
  | 18 => ⟨S8192x1, .i32⟩
  | 19 => ⟨S8192x1, .i1⟩
  | 20 => ⟨S8192x1, .i1⟩
  | 21 => ⟨S_, .i1⟩
  | 22 => ⟨S8192, .i1⟩
  | 23 => ⟨S8192x256, .f32⟩
  | 24 => ⟨S8192x256, .i1⟩
  | 25 => ⟨S_, .f32⟩
  | 26 => ⟨S8192x256, .f32⟩
  | 27 => ⟨S8192x256, .f32⟩
  | 28 => ⟨S8x1024x256, .f32⟩
  | 29 => ⟨S8x1024x256, .f32⟩
  | 30 => ⟨S8x1024x256, .f32⟩
  | 31 => ⟨S_, .f32⟩
  | 32 => ⟨S_, .f32⟩
  | 33 => ⟨S_, .f32⟩
  | 34 => ⟨S_, .f32⟩
  | 35 => ⟨S8x1024x256, .f32⟩
  | 36 => ⟨S8x1024x256, .f32⟩
  | 37 => ⟨S8x1024, .i32⟩
  | 38 => ⟨S8x1024x256, .f32⟩
  | 39 => ⟨S8x1024x256, .f32⟩
  | 40 => ⟨S1x1024x256, .f32⟩
  | 41 => ⟨S1024x256, .f32⟩
  | 42 => ⟨S8192x256, .f32⟩
  | 43 => ⟨S8192x256, .f32⟩
  | 44 => ⟨S_, .f32⟩
  | 45 => ⟨S8192, .f32⟩
  | 46 => ⟨S8192x1, .f32⟩
  | 47 => ⟨S_, .f32⟩
  | 48 => ⟨S8192x256, .f32⟩
  | 49 => ⟨S8192x256, .f32⟩
  | 50 => ⟨S256x1024, .f32⟩
  | 51 => ⟨S8192x1024, .f32⟩
  | 52 => ⟨S8192x1024, .f32⟩
  | 53 => ⟨S8192x1024, .f32⟩
  | 54 => ⟨S1024x256, .f32⟩
  | 55 => ⟨S_, .f32⟩
  | 56 => ⟨S1024, .f32⟩
  | 57 => ⟨S1x1024, .f32⟩
  | 58 => ⟨S8192x1024, .f32⟩
  | 59 => ⟨S8192x1024, .f32⟩
  | 60 => ⟨S8192x1024, .i32⟩
  | 61 => ⟨S_, .f32⟩
  | 62 => ⟨S_, .i32⟩
  | 63 => ⟨S8192, .f32⟩
  | 64 => ⟨S8192, .i32⟩
  | 65 => ⟨S_, .i32⟩
  | 66 => ⟨S8192, .i32⟩
  | 67 => ⟨S8192, .i1⟩
  | 68 => ⟨S_, .i32⟩
  | 69 => ⟨S8192, .i32⟩
  | 70 => ⟨S8192, .i32⟩
  | 71 => ⟨S8192, .i32⟩
  | 72 => ⟨S8192x1, .i32⟩
  | 73 => ⟨S1, .i32⟩
  | 74 => ⟨S_, .i32⟩
  | 75 => ⟨S8192x1, .i32⟩
  | 76 => ⟨S8192x1, .i1⟩
  | 77 => ⟨S1x1, .i32⟩
  | 78 => ⟨S8192x1, .i32⟩
  | 79 => ⟨S8192x1, .i1⟩
  | 80 => ⟨S8192x1, .i1⟩
  | 81 => ⟨S_, .i1⟩
  | 82 => ⟨S8192, .i1⟩
  | 83 => ⟨S8192x256, .f32⟩
  | 84 => ⟨S8192x256, .i1⟩
  | 85 => ⟨S_, .f32⟩
  | 86 => ⟨S8192x256, .f32⟩
  | 87 => ⟨S8192x256, .f32⟩
  | 88 => ⟨S8x1024x256, .f32⟩
  | 89 => ⟨S8x1024x256, .f32⟩
  | 90 => ⟨S8x1024x256, .f32⟩
  | 91 => ⟨S_, .f32⟩
  | 92 => ⟨S_, .f32⟩
  | 93 => ⟨S_, .f32⟩
  | 94 => ⟨S_, .f32⟩
  | 95 => ⟨S8x1024x256, .f32⟩
  | 96 => ⟨S8x1024x256, .f32⟩
  | 97 => ⟨S8x1024, .i32⟩
  | 98 => ⟨S8x1024x256, .f32⟩
  | 99 => ⟨S8x1024x256, .f32⟩
  | 100 => ⟨S8x1024x1, .i32⟩
  | 101 => ⟨S8x1024x1, .i32⟩
  | 102 => ⟨S8x1024x1, .i32⟩
  | 103 => ⟨S8x1024x1, .i32⟩
  | 104 => ⟨S8x1024x1, .i32⟩
  | 105 => ⟨S8x1024x1, .i32⟩
  | 106 => ⟨S8x1024x1, .i32⟩
  | 107 => ⟨S8x1024x1, .i32⟩
  | 108 => ⟨S8x1024x8, .i32⟩
  | 109 => ⟨S1, .f32⟩
  | 110 => ⟨S1, .f32⟩
  | 111 => ⟨S1, .f32⟩
  | 112 => ⟨S1, .f32⟩
  | 113 => ⟨S1, .f32⟩
  | 114 => ⟨S1, .f32⟩
  | 115 => ⟨S1, .f32⟩
  | 116 => ⟨S1, .f32⟩
  | 117 => ⟨S8, .f32⟩
  | _ => ⟨S8x1024x256, .f32⟩

abbrev hbmTy (i : Nat) : BufTy := match i / 128 with
  | 0 => hbmTy0_0 i
  | 1 => hbmTy0_1 i
  | 2 => hbmTy0_2 i
  | 3 => hbmTy0_3 i
  | _ => ⟨S8x1024x256, .f32⟩

abbrev bufTy : (tb : Table) → Fin (tcTables nBuf tb) → BufTy
  | .hbm, ⟨i, _⟩ => hbmTy i
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst_1 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_call0_v0 : Ref sig .tc := ⟨.hbm, 24, rfl⟩
abbrev main_call0_call0_cst : Ref sig .tc := ⟨.hbm, 25, rfl⟩
abbrev main_call0_call0_c : Ref sig .tc := ⟨.hbm, 26, rfl⟩
abbrev main_call0_call0_v1_0 : Ref sig .tc := ⟨.hbm, 27, rfl⟩
abbrev main_call0_v15 : Ref sig .tc := ⟨.hbm, 28, rfl⟩
abbrev main_call0_call1_c : Ref sig .tc := ⟨.hbm, 29, rfl⟩
abbrev main_call0_call1_v0 : Ref sig .tc := ⟨.hbm, 30, rfl⟩
abbrev main_call0_call1_v1 : Ref sig .tc := ⟨.hbm, 31, rfl⟩
abbrev main_call0_call1_c_0 : Ref sig .tc := ⟨.hbm, 32, rfl⟩
abbrev main_call0_call1_v2 : Ref sig .tc := ⟨.hbm, 33, rfl⟩
abbrev main_call0_call1_v3 : Ref sig .tc := ⟨.hbm, 34, rfl⟩
abbrev main_call0_call1_v4 : Ref sig .tc := ⟨.hbm, 35, rfl⟩
abbrev main_call0_call1_v5 : Ref sig .tc := ⟨.hbm, 36, rfl⟩
abbrev main_call0_call1_c_1 : Ref sig .tc := ⟨.hbm, 37, rfl⟩
abbrev main_call0_call1_c_2 : Ref sig .tc := ⟨.hbm, 38, rfl⟩
abbrev main_call0_call1_v6 : Ref sig .tc := ⟨.hbm, 39, rfl⟩
abbrev main_call0_call1_v7 : Ref sig .tc := ⟨.hbm, 40, rfl⟩
abbrev main_call0_call1_v8 : Ref sig .tc := ⟨.hbm, 41, rfl⟩
abbrev main_call0_call1_v9 : Ref sig .tc := ⟨.hbm, 42, rfl⟩
abbrev main_call0_call1_v10 : Ref sig .tc := ⟨.hbm, 43, rfl⟩
abbrev main_call0_call1_v11 : Ref sig .tc := ⟨.hbm, 44, rfl⟩
abbrev main_call0_call1_c_3 : Ref sig .tc := ⟨.hbm, 45, rfl⟩
abbrev main_call0_call1_v12 : Ref sig .tc := ⟨.hbm, 46, rfl⟩
abbrev main_call0_call1_v13 : Ref sig .tc := ⟨.hbm, 47, rfl⟩
abbrev main_call0_call1_v14 : Ref sig .tc := ⟨.hbm, 48, rfl⟩
abbrev main_call0_call1_cst : Ref sig .tc := ⟨.hbm, 49, rfl⟩
abbrev main_call0_call1_v15 : Ref sig .tc := ⟨.hbm, 50, rfl⟩
abbrev main_call0_v16 : Ref sig .tc := ⟨.hbm, 51, rfl⟩
abbrev main_call0_v17 : Ref sig .tc := ⟨.hbm, 52, rfl⟩
abbrev main_call0_v18 : Ref sig .tc := ⟨.hbm, 53, rfl⟩
abbrev main_call0_v19 : Ref sig .tc := ⟨.hbm, 54, rfl⟩
abbrev main_call0_cst_2 : Ref sig .tc := ⟨.hbm, 55, rfl⟩
abbrev main_call0_v20 : Ref sig .tc := ⟨.hbm, 56, rfl⟩
abbrev main_call0_cst_3 : Ref sig .tc := ⟨.hbm, 57, rfl⟩
abbrev main_v3_2 : Ref sig .tc := ⟨.hbm, 58, rfl⟩
abbrev main_call0_v22 : Ref sig .tc := ⟨.hbm, 59, rfl⟩
abbrev main_v3_0 : Ref sig .tc := ⟨.hbm, 60, rfl⟩
abbrev main_v3_1 : Ref sig .tc := ⟨.hbm, 61, rfl⟩
abbrev main_v4 : Ref sig .tc := ⟨.hbm, 62, rfl⟩
abbrev main_v5 : Ref sig .tc := ⟨.hbm, 63, rfl⟩
abbrev main_v6 : Ref sig .tc := ⟨.hbm, 64, rfl⟩
abbrev main_v7 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_cst_1 : Ref sig .tc := ⟨.hbm, 79, rfl⟩
abbrev main_call1_v11 : Ref sig .tc := ⟨.hbm, 80, rfl⟩
abbrev main_call1_v12 : Ref sig .tc := ⟨.hbm, 81, rfl⟩
abbrev main_call1_v13 : Ref sig .tc := ⟨.hbm, 82, rfl⟩
abbrev main_call1_v14 : Ref sig .tc := ⟨.hbm, 83, rfl⟩
abbrev main_call1_call0_v0 : Ref sig .tc := ⟨.hbm, 84, rfl⟩
abbrev main_call1_call0_cst : Ref sig .tc := ⟨.hbm, 85, rfl⟩
abbrev main_call1_call0_c : Ref sig .tc := ⟨.hbm, 86, rfl⟩
abbrev main_call1_call0_v1_0 : Ref sig .tc := ⟨.hbm, 87, rfl⟩
abbrev main_call1_v15 : Ref sig .tc := ⟨.hbm, 88, rfl⟩
abbrev main_call1_call1_c : Ref sig .tc := ⟨.hbm, 89, rfl⟩
abbrev main_call1_call1_v0 : Ref sig .tc := ⟨.hbm, 90, rfl⟩
abbrev main_call1_call1_v1 : Ref sig .tc := ⟨.hbm, 91, rfl⟩
abbrev main_call1_call1_c_0 : Ref sig .tc := ⟨.hbm, 92, rfl⟩
abbrev main_call1_call1_v2 : Ref sig .tc := ⟨.hbm, 93, rfl⟩
abbrev main_call1_call1_v3 : Ref sig .tc := ⟨.hbm, 94, rfl⟩
abbrev main_call1_call1_v4 : Ref sig .tc := ⟨.hbm, 95, rfl⟩
abbrev main_call1_call1_v5 : Ref sig .tc := ⟨.hbm, 96, rfl⟩
abbrev main_call1_call1_c_1 : Ref sig .tc := ⟨.hbm, 97, rfl⟩
abbrev main_call1_call1_c_2 : Ref sig .tc := ⟨.hbm, 98, rfl⟩
abbrev main_call1_call1_v6 : Ref sig .tc := ⟨.hbm, 99, rfl⟩
abbrev main_call1_call1_v7 : Ref sig .tc := ⟨.hbm, 100, rfl⟩
abbrev main_call1_call1_v8 : Ref sig .tc := ⟨.hbm, 101, rfl⟩
abbrev main_call1_call1_v9 : Ref sig .tc := ⟨.hbm, 102, rfl⟩
abbrev main_call1_call1_v10 : Ref sig .tc := ⟨.hbm, 103, rfl⟩
abbrev main_call1_call1_v11 : Ref sig .tc := ⟨.hbm, 104, rfl⟩
abbrev main_call1_call1_c_3 : Ref sig .tc := ⟨.hbm, 105, rfl⟩
abbrev main_call1_call1_v12 : Ref sig .tc := ⟨.hbm, 106, rfl⟩
abbrev main_call1_call1_v13 : Ref sig .tc := ⟨.hbm, 107, rfl⟩
abbrev main_call1_call1_v14 : Ref sig .tc := ⟨.hbm, 108, rfl⟩
abbrev main_call1_call1_cst : Ref sig .tc := ⟨.hbm, 109, rfl⟩
abbrev main_call1_call1_v15 : Ref sig .tc := ⟨.hbm, 110, rfl⟩
abbrev main_call1_v16 : Ref sig .tc := ⟨.hbm, 111, rfl⟩
abbrev main_call1_v17 : Ref sig .tc := ⟨.hbm, 112, rfl⟩
abbrev main_call1_v18 : Ref sig .tc := ⟨.hbm, 113, rfl⟩
abbrev main_call1_v19 : Ref sig .tc := ⟨.hbm, 114, rfl⟩
abbrev main_call1_cst_2 : Ref sig .tc := ⟨.hbm, 115, rfl⟩
abbrev main_call1_v20 : Ref sig .tc := ⟨.hbm, 116, rfl⟩
abbrev main_call1_cst_3 : Ref sig .tc := ⟨.hbm, 117, rfl⟩
abbrev main_v8_2 : Ref sig .tc := ⟨.hbm, 118, rfl⟩
abbrev main_call1_v22 : Ref sig .tc := ⟨.hbm, 119, rfl⟩
abbrev main_v8_0 : Ref sig .tc := ⟨.hbm, 120, rfl⟩
abbrev main_v8_1 : Ref sig .tc := ⟨.hbm, 121, rfl⟩
abbrev main_v9 : Ref sig .tc := ⟨.hbm, 122, rfl⟩
abbrev main_v10 : Ref sig .tc := ⟨.hbm, 123, rfl⟩
abbrev main_v11 : Ref sig .tc := ⟨.hbm, 124, rfl⟩
abbrev main_v12 : Ref sig .tc := ⟨.hbm, 125, rfl⟩
abbrev main_call2_v0 : Ref sig .tc := ⟨.hbm, 126, rfl⟩
abbrev main_call2_v1 : Ref sig .tc := ⟨.hbm, 127, rfl⟩
abbrev main_call2_cst : Ref sig .tc := ⟨.hbm, 128, rfl⟩
abbrev main_call2_v2 : Ref sig .tc := ⟨.hbm, 129, rfl⟩
abbrev main_call2_v3 : Ref sig .tc := ⟨.hbm, 130, rfl⟩
abbrev main_call2_cst_0 : Ref sig .tc := ⟨.hbm, 131, rfl⟩
abbrev main_call2_v4 : Ref sig .tc := ⟨.hbm, 132, rfl⟩
abbrev main_call2_v5 : Ref sig .tc := ⟨.hbm, 133, rfl⟩
abbrev main_call2_v6 : Ref sig .tc := ⟨.hbm, 134, rfl⟩
abbrev main_call2_v7 : Ref sig .tc := ⟨.hbm, 135, rfl⟩
abbrev main_call2_v8 : Ref sig .tc := ⟨.hbm, 136, rfl⟩
abbrev main_call2_v9 : Ref sig .tc := ⟨.hbm, 137, rfl⟩
abbrev main_call2_v10 : Ref sig .tc := ⟨.hbm, 138, rfl⟩
abbrev main_call2_cst_1 : Ref sig .tc := ⟨.hbm, 139, rfl⟩
abbrev main_call2_v11 : Ref sig .tc := ⟨.hbm, 140, rfl⟩
abbrev main_call2_v12 : Ref sig .tc := ⟨.hbm, 141, rfl⟩
abbrev main_call2_v13 : Ref sig .tc := ⟨.hbm, 142, rfl⟩
abbrev main_call2_v14 : Ref sig .tc := ⟨.hbm, 143, rfl⟩
abbrev main_call2_call0_v0 : Ref sig .tc := ⟨.hbm, 144, rfl⟩
abbrev main_call2_call0_cst : Ref sig .tc := ⟨.hbm, 145, rfl⟩
abbrev main_call2_call0_c : Ref sig .tc := ⟨.hbm, 146, rfl⟩
abbrev main_call2_call0_v1_0 : Ref sig .tc := ⟨.hbm, 147, rfl⟩
abbrev main_call2_v15 : Ref sig .tc := ⟨.hbm, 148, rfl⟩
abbrev main_call2_call1_c : Ref sig .tc := ⟨.hbm, 149, rfl⟩
abbrev main_call2_call1_v0 : Ref sig .tc := ⟨.hbm, 150, rfl⟩
abbrev main_call2_call1_v1 : Ref sig .tc := ⟨.hbm, 151, rfl⟩
abbrev main_call2_call1_c_0 : Ref sig .tc := ⟨.hbm, 152, rfl⟩
abbrev main_call2_call1_v2 : Ref sig .tc := ⟨.hbm, 153, rfl⟩
abbrev main_call2_call1_v3 : Ref sig .tc := ⟨.hbm, 154, rfl⟩
abbrev main_call2_call1_v4 : Ref sig .tc := ⟨.hbm, 155, rfl⟩
abbrev main_call2_call1_v5 : Ref sig .tc := ⟨.hbm, 156, rfl⟩
abbrev main_call2_call1_c_1 : Ref sig .tc := ⟨.hbm, 157, rfl⟩
abbrev main_call2_call1_c_2 : Ref sig .tc := ⟨.hbm, 158, rfl⟩
abbrev main_call2_call1_v6 : Ref sig .tc := ⟨.hbm, 159, rfl⟩
abbrev main_call2_call1_v7 : Ref sig .tc := ⟨.hbm, 160, rfl⟩
abbrev main_call2_call1_v8 : Ref sig .tc := ⟨.hbm, 161, rfl⟩
abbrev main_call2_call1_v9 : Ref sig .tc := ⟨.hbm, 162, rfl⟩
abbrev main_call2_call1_v10 : Ref sig .tc := ⟨.hbm, 163, rfl⟩
abbrev main_call2_call1_v11 : Ref sig .tc := ⟨.hbm, 164, rfl⟩
abbrev main_call2_call1_c_3 : Ref sig .tc := ⟨.hbm, 165, rfl⟩
abbrev main_call2_call1_v12 : Ref sig .tc := ⟨.hbm, 166, rfl⟩
abbrev main_call2_call1_v13 : Ref sig .tc := ⟨.hbm, 167, rfl⟩
abbrev main_call2_call1_v14 : Ref sig .tc := ⟨.hbm, 168, rfl⟩
abbrev main_call2_call1_cst : Ref sig .tc := ⟨.hbm, 169, rfl⟩
abbrev main_call2_call1_v15 : Ref sig .tc := ⟨.hbm, 170, rfl⟩
abbrev main_call2_v16 : Ref sig .tc := ⟨.hbm, 171, rfl⟩
abbrev main_call2_v17 : Ref sig .tc := ⟨.hbm, 172, rfl⟩
abbrev main_call2_v18 : Ref sig .tc := ⟨.hbm, 173, rfl⟩
abbrev main_call2_v19 : Ref sig .tc := ⟨.hbm, 174, rfl⟩
abbrev main_call2_cst_2 : Ref sig .tc := ⟨.hbm, 175, rfl⟩
abbrev main_call2_v20 : Ref sig .tc := ⟨.hbm, 176, rfl⟩
abbrev main_call2_cst_3 : Ref sig .tc := ⟨.hbm, 177, rfl⟩
abbrev main_v13_2 : Ref sig .tc := ⟨.hbm, 178, rfl⟩
abbrev main_call2_v22 : Ref sig .tc := ⟨.hbm, 179, rfl⟩
abbrev main_v13_0 : Ref sig .tc := ⟨.hbm, 180, rfl⟩
abbrev main_v13_1 : Ref sig .tc := ⟨.hbm, 181, rfl⟩
abbrev main_v14 : Ref sig .tc := ⟨.hbm, 182, rfl⟩
abbrev main_v15 : Ref sig .tc := ⟨.hbm, 183, rfl⟩
abbrev main_v16 : Ref sig .tc := ⟨.hbm, 184, rfl⟩
abbrev main_v17 : Ref sig .tc := ⟨.hbm, 185, rfl⟩
abbrev main_call3_v0 : Ref sig .tc := ⟨.hbm, 186, rfl⟩
abbrev main_call3_v1 : Ref sig .tc := ⟨.hbm, 187, rfl⟩
abbrev main_call3_cst : Ref sig .tc := ⟨.hbm, 188, rfl⟩
abbrev main_call3_v2 : Ref sig .tc := ⟨.hbm, 189, rfl⟩
abbrev main_call3_v3 : Ref sig .tc := ⟨.hbm, 190, rfl⟩
abbrev main_call3_cst_0 : Ref sig .tc := ⟨.hbm, 191, rfl⟩
abbrev main_call3_v4 : Ref sig .tc := ⟨.hbm, 192, rfl⟩
abbrev main_call3_v5 : Ref sig .tc := ⟨.hbm, 193, rfl⟩
abbrev main_call3_v6 : Ref sig .tc := ⟨.hbm, 194, rfl⟩
abbrev main_call3_v7 : Ref sig .tc := ⟨.hbm, 195, rfl⟩
abbrev main_call3_v8 : Ref sig .tc := ⟨.hbm, 196, rfl⟩
abbrev main_call3_v9 : Ref sig .tc := ⟨.hbm, 197, rfl⟩
abbrev main_call3_v10 : Ref sig .tc := ⟨.hbm, 198, rfl⟩
abbrev main_call3_cst_1 : Ref sig .tc := ⟨.hbm, 199, rfl⟩
abbrev main_call3_v11 : Ref sig .tc := ⟨.hbm, 200, rfl⟩
abbrev main_call3_v12 : Ref sig .tc := ⟨.hbm, 201, rfl⟩
abbrev main_call3_v13 : Ref sig .tc := ⟨.hbm, 202, rfl⟩
abbrev main_call3_v14 : Ref sig .tc := ⟨.hbm, 203, rfl⟩
abbrev main_call3_call0_v0 : Ref sig .tc := ⟨.hbm, 204, rfl⟩
abbrev main_call3_call0_cst : Ref sig .tc := ⟨.hbm, 205, rfl⟩
abbrev main_call3_call0_c : Ref sig .tc := ⟨.hbm, 206, rfl⟩
abbrev main_call3_call0_v1_0 : Ref sig .tc := ⟨.hbm, 207, rfl⟩
abbrev main_call3_v15 : Ref sig .tc := ⟨.hbm, 208, rfl⟩
abbrev main_call3_call1_c : Ref sig .tc := ⟨.hbm, 209, rfl⟩
abbrev main_call3_call1_v0 : Ref sig .tc := ⟨.hbm, 210, rfl⟩
abbrev main_call3_call1_v1 : Ref sig .tc := ⟨.hbm, 211, rfl⟩
abbrev main_call3_call1_c_0 : Ref sig .tc := ⟨.hbm, 212, rfl⟩
abbrev main_call3_call1_v2 : Ref sig .tc := ⟨.hbm, 213, rfl⟩
abbrev main_call3_call1_v3 : Ref sig .tc := ⟨.hbm, 214, rfl⟩
abbrev main_call3_call1_v4 : Ref sig .tc := ⟨.hbm, 215, rfl⟩
abbrev main_call3_call1_v5 : Ref sig .tc := ⟨.hbm, 216, rfl⟩
abbrev main_call3_call1_c_1 : Ref sig .tc := ⟨.hbm, 217, rfl⟩
abbrev main_call3_call1_c_2 : Ref sig .tc := ⟨.hbm, 218, rfl⟩
abbrev main_call3_call1_v6 : Ref sig .tc := ⟨.hbm, 219, rfl⟩
abbrev main_call3_call1_v7 : Ref sig .tc := ⟨.hbm, 220, rfl⟩
abbrev main_call3_call1_v8 : Ref sig .tc := ⟨.hbm, 221, rfl⟩
abbrev main_call3_call1_v9 : Ref sig .tc := ⟨.hbm, 222, rfl⟩
abbrev main_call3_call1_v10 : Ref sig .tc := ⟨.hbm, 223, rfl⟩
abbrev main_call3_call1_v11 : Ref sig .tc := ⟨.hbm, 224, rfl⟩
abbrev main_call3_call1_c_3 : Ref sig .tc := ⟨.hbm, 225, rfl⟩
abbrev main_call3_call1_v12 : Ref sig .tc := ⟨.hbm, 226, rfl⟩
abbrev main_call3_call1_v13 : Ref sig .tc := ⟨.hbm, 227, rfl⟩
abbrev main_call3_call1_v14 : Ref sig .tc := ⟨.hbm, 228, rfl⟩
abbrev main_call3_call1_cst : Ref sig .tc := ⟨.hbm, 229, rfl⟩
abbrev main_call3_call1_v15 : Ref sig .tc := ⟨.hbm, 230, rfl⟩
abbrev main_call3_v16 : Ref sig .tc := ⟨.hbm, 231, rfl⟩
abbrev main_call3_v17 : Ref sig .tc := ⟨.hbm, 232, rfl⟩
abbrev main_call3_v18 : Ref sig .tc := ⟨.hbm, 233, rfl⟩
abbrev main_call3_v19 : Ref sig .tc := ⟨.hbm, 234, rfl⟩
abbrev main_call3_cst_2 : Ref sig .tc := ⟨.hbm, 235, rfl⟩
abbrev main_call3_v20 : Ref sig .tc := ⟨.hbm, 236, rfl⟩
abbrev main_call3_cst_3 : Ref sig .tc := ⟨.hbm, 237, rfl⟩
abbrev main_v18_2 : Ref sig .tc := ⟨.hbm, 238, rfl⟩
abbrev main_call3_v22 : Ref sig .tc := ⟨.hbm, 239, rfl⟩
abbrev main_v18_0 : Ref sig .tc := ⟨.hbm, 240, rfl⟩
abbrev main_v18_1 : Ref sig .tc := ⟨.hbm, 241, rfl⟩
abbrev main_v19 : Ref sig .tc := ⟨.hbm, 242, rfl⟩
abbrev main_v20 : Ref sig .tc := ⟨.hbm, 243, rfl⟩
abbrev main_v21 : Ref sig .tc := ⟨.hbm, 244, rfl⟩
abbrev main_v22 : Ref sig .tc := ⟨.hbm, 245, rfl⟩
abbrev main_call4_v0 : Ref sig .tc := ⟨.hbm, 246, rfl⟩
abbrev main_call4_v1 : Ref sig .tc := ⟨.hbm, 247, rfl⟩
abbrev main_call4_cst : Ref sig .tc := ⟨.hbm, 248, rfl⟩
abbrev main_call4_v2 : Ref sig .tc := ⟨.hbm, 249, rfl⟩
abbrev main_call4_v3 : Ref sig .tc := ⟨.hbm, 250, rfl⟩
abbrev main_call4_cst_0 : Ref sig .tc := ⟨.hbm, 251, rfl⟩
abbrev main_call4_v4 : Ref sig .tc := ⟨.hbm, 252, rfl⟩
abbrev main_call4_v5 : Ref sig .tc := ⟨.hbm, 253, rfl⟩
abbrev main_call4_v6 : Ref sig .tc := ⟨.hbm, 254, rfl⟩
abbrev main_call4_v7 : Ref sig .tc := ⟨.hbm, 255, rfl⟩
abbrev main_call4_v8 : Ref sig .tc := ⟨.hbm, 256, rfl⟩
abbrev main_call4_v9 : Ref sig .tc := ⟨.hbm, 257, rfl⟩
abbrev main_call4_v10 : Ref sig .tc := ⟨.hbm, 258, rfl⟩
abbrev main_call4_cst_1 : Ref sig .tc := ⟨.hbm, 259, rfl⟩
abbrev main_call4_v11 : Ref sig .tc := ⟨.hbm, 260, rfl⟩
abbrev main_call4_v12 : Ref sig .tc := ⟨.hbm, 261, rfl⟩
abbrev main_call4_v13 : Ref sig .tc := ⟨.hbm, 262, rfl⟩
abbrev main_call4_v14 : Ref sig .tc := ⟨.hbm, 263, rfl⟩
abbrev main_call4_call0_v0 : Ref sig .tc := ⟨.hbm, 264, rfl⟩
abbrev main_call4_call0_cst : Ref sig .tc := ⟨.hbm, 265, rfl⟩
abbrev main_call4_call0_c : Ref sig .tc := ⟨.hbm, 266, rfl⟩
abbrev main_call4_call0_v1_0 : Ref sig .tc := ⟨.hbm, 267, rfl⟩
abbrev main_call4_v15 : Ref sig .tc := ⟨.hbm, 268, rfl⟩
abbrev main_call4_call1_c : Ref sig .tc := ⟨.hbm, 269, rfl⟩
abbrev main_call4_call1_v0 : Ref sig .tc := ⟨.hbm, 270, rfl⟩
abbrev main_call4_call1_v1 : Ref sig .tc := ⟨.hbm, 271, rfl⟩
abbrev main_call4_call1_c_0 : Ref sig .tc := ⟨.hbm, 272, rfl⟩
abbrev main_call4_call1_v2 : Ref sig .tc := ⟨.hbm, 273, rfl⟩
abbrev main_call4_call1_v3 : Ref sig .tc := ⟨.hbm, 274, rfl⟩
abbrev main_call4_call1_v4 : Ref sig .tc := ⟨.hbm, 275, rfl⟩
abbrev main_call4_call1_v5 : Ref sig .tc := ⟨.hbm, 276, rfl⟩
abbrev main_call4_call1_c_1 : Ref sig .tc := ⟨.hbm, 277, rfl⟩
abbrev main_call4_call1_c_2 : Ref sig .tc := ⟨.hbm, 278, rfl⟩
abbrev main_call4_call1_v6 : Ref sig .tc := ⟨.hbm, 279, rfl⟩
abbrev main_call4_call1_v7 : Ref sig .tc := ⟨.hbm, 280, rfl⟩
abbrev main_call4_call1_v8 : Ref sig .tc := ⟨.hbm, 281, rfl⟩
abbrev main_call4_call1_v9 : Ref sig .tc := ⟨.hbm, 282, rfl⟩
abbrev main_call4_call1_v10 : Ref sig .tc := ⟨.hbm, 283, rfl⟩
abbrev main_call4_call1_v11 : Ref sig .tc := ⟨.hbm, 284, rfl⟩
abbrev main_call4_call1_c_3 : Ref sig .tc := ⟨.hbm, 285, rfl⟩
abbrev main_call4_call1_v12 : Ref sig .tc := ⟨.hbm, 286, rfl⟩
abbrev main_call4_call1_v13 : Ref sig .tc := ⟨.hbm, 287, rfl⟩
abbrev main_call4_call1_v14 : Ref sig .tc := ⟨.hbm, 288, rfl⟩
abbrev main_call4_call1_cst : Ref sig .tc := ⟨.hbm, 289, rfl⟩
abbrev main_call4_call1_v15 : Ref sig .tc := ⟨.hbm, 290, rfl⟩
abbrev main_call4_v16 : Ref sig .tc := ⟨.hbm, 291, rfl⟩
abbrev main_call4_v17 : Ref sig .tc := ⟨.hbm, 292, rfl⟩
abbrev main_call4_v18 : Ref sig .tc := ⟨.hbm, 293, rfl⟩
abbrev main_call4_v19 : Ref sig .tc := ⟨.hbm, 294, rfl⟩
abbrev main_call4_cst_2 : Ref sig .tc := ⟨.hbm, 295, rfl⟩
abbrev main_call4_v20 : Ref sig .tc := ⟨.hbm, 296, rfl⟩
abbrev main_call4_cst_3 : Ref sig .tc := ⟨.hbm, 297, rfl⟩
abbrev main_v23_2 : Ref sig .tc := ⟨.hbm, 298, rfl⟩
abbrev main_call4_v22 : Ref sig .tc := ⟨.hbm, 299, rfl⟩
abbrev main_v23_0 : Ref sig .tc := ⟨.hbm, 300, rfl⟩
abbrev main_v23_1 : Ref sig .tc := ⟨.hbm, 301, rfl⟩
abbrev main_v24 : Ref sig .tc := ⟨.hbm, 302, rfl⟩
abbrev main_v25 : Ref sig .tc := ⟨.hbm, 303, rfl⟩
abbrev main_v26 : Ref sig .tc := ⟨.hbm, 304, rfl⟩
abbrev main_v27 : Ref sig .tc := ⟨.hbm, 305, rfl⟩
abbrev main_call5_v0 : Ref sig .tc := ⟨.hbm, 306, rfl⟩
abbrev main_call5_v1 : Ref sig .tc := ⟨.hbm, 307, rfl⟩
abbrev main_call5_cst : Ref sig .tc := ⟨.hbm, 308, rfl⟩
abbrev main_call5_v2 : Ref sig .tc := ⟨.hbm, 309, rfl⟩
abbrev main_call5_v3 : Ref sig .tc := ⟨.hbm, 310, rfl⟩
abbrev main_call5_cst_0 : Ref sig .tc := ⟨.hbm, 311, rfl⟩
abbrev main_call5_v4 : Ref sig .tc := ⟨.hbm, 312, rfl⟩
abbrev main_call5_v5 : Ref sig .tc := ⟨.hbm, 313, rfl⟩
abbrev main_call5_v6 : Ref sig .tc := ⟨.hbm, 314, rfl⟩
abbrev main_call5_v7 : Ref sig .tc := ⟨.hbm, 315, rfl⟩
abbrev main_call5_v8 : Ref sig .tc := ⟨.hbm, 316, rfl⟩
abbrev main_call5_v9 : Ref sig .tc := ⟨.hbm, 317, rfl⟩
abbrev main_call5_v10 : Ref sig .tc := ⟨.hbm, 318, rfl⟩
abbrev main_call5_cst_1 : Ref sig .tc := ⟨.hbm, 319, rfl⟩
abbrev main_call5_v11 : Ref sig .tc := ⟨.hbm, 320, rfl⟩
abbrev main_call5_v12 : Ref sig .tc := ⟨.hbm, 321, rfl⟩
abbrev main_call5_v13 : Ref sig .tc := ⟨.hbm, 322, rfl⟩
abbrev main_call5_v14 : Ref sig .tc := ⟨.hbm, 323, rfl⟩
abbrev main_call5_call0_v0 : Ref sig .tc := ⟨.hbm, 324, rfl⟩
abbrev main_call5_call0_cst : Ref sig .tc := ⟨.hbm, 325, rfl⟩
abbrev main_call5_call0_c : Ref sig .tc := ⟨.hbm, 326, rfl⟩
abbrev main_call5_call0_v1_0 : Ref sig .tc := ⟨.hbm, 327, rfl⟩
abbrev main_call5_v15 : Ref sig .tc := ⟨.hbm, 328, rfl⟩
abbrev main_call5_call1_c : Ref sig .tc := ⟨.hbm, 329, rfl⟩
abbrev main_call5_call1_v0 : Ref sig .tc := ⟨.hbm, 330, rfl⟩
abbrev main_call5_call1_v1 : Ref sig .tc := ⟨.hbm, 331, rfl⟩
abbrev main_call5_call1_c_0 : Ref sig .tc := ⟨.hbm, 332, rfl⟩
abbrev main_call5_call1_v2 : Ref sig .tc := ⟨.hbm, 333, rfl⟩
abbrev main_call5_call1_v3 : Ref sig .tc := ⟨.hbm, 334, rfl⟩
abbrev main_call5_call1_v4 : Ref sig .tc := ⟨.hbm, 335, rfl⟩
abbrev main_call5_call1_v5 : Ref sig .tc := ⟨.hbm, 336, rfl⟩
abbrev main_call5_call1_c_1 : Ref sig .tc := ⟨.hbm, 337, rfl⟩
abbrev main_call5_call1_c_2 : Ref sig .tc := ⟨.hbm, 338, rfl⟩
abbrev main_call5_call1_v6 : Ref sig .tc := ⟨.hbm, 339, rfl⟩
abbrev main_call5_call1_v7 : Ref sig .tc := ⟨.hbm, 340, rfl⟩
abbrev main_call5_call1_v8 : Ref sig .tc := ⟨.hbm, 341, rfl⟩
abbrev main_call5_call1_v9 : Ref sig .tc := ⟨.hbm, 342, rfl⟩
abbrev main_call5_call1_v10 : Ref sig .tc := ⟨.hbm, 343, rfl⟩
abbrev main_call5_call1_v11 : Ref sig .tc := ⟨.hbm, 344, rfl⟩
abbrev main_call5_call1_c_3 : Ref sig .tc := ⟨.hbm, 345, rfl⟩
abbrev main_call5_call1_v12 : Ref sig .tc := ⟨.hbm, 346, rfl⟩
abbrev main_call5_call1_v13 : Ref sig .tc := ⟨.hbm, 347, rfl⟩
abbrev main_call5_call1_v14 : Ref sig .tc := ⟨.hbm, 348, rfl⟩
abbrev main_call5_call1_cst : Ref sig .tc := ⟨.hbm, 349, rfl⟩
abbrev main_call5_call1_v15 : Ref sig .tc := ⟨.hbm, 350, rfl⟩
abbrev main_call5_v16 : Ref sig .tc := ⟨.hbm, 351, rfl⟩
abbrev main_call5_v17 : Ref sig .tc := ⟨.hbm, 352, rfl⟩
abbrev main_call5_v18 : Ref sig .tc := ⟨.hbm, 353, rfl⟩
abbrev main_call5_v19 : Ref sig .tc := ⟨.hbm, 354, rfl⟩
abbrev main_call5_cst_2 : Ref sig .tc := ⟨.hbm, 355, rfl⟩
abbrev main_call5_v20 : Ref sig .tc := ⟨.hbm, 356, rfl⟩
abbrev main_call5_cst_3 : Ref sig .tc := ⟨.hbm, 357, rfl⟩
abbrev main_v28_2 : Ref sig .tc := ⟨.hbm, 358, rfl⟩
abbrev main_call5_v22 : Ref sig .tc := ⟨.hbm, 359, rfl⟩
abbrev main_v28_0 : Ref sig .tc := ⟨.hbm, 360, rfl⟩
abbrev main_v28_1 : Ref sig .tc := ⟨.hbm, 361, rfl⟩
abbrev main_v29 : Ref sig .tc := ⟨.hbm, 362, rfl⟩
abbrev main_v30 : Ref sig .tc := ⟨.hbm, 363, rfl⟩
abbrev main_v31 : Ref sig .tc := ⟨.hbm, 364, rfl⟩
abbrev main_v32 : Ref sig .tc := ⟨.hbm, 365, rfl⟩
abbrev main_call6_v0 : Ref sig .tc := ⟨.hbm, 366, rfl⟩
abbrev main_call6_v1 : Ref sig .tc := ⟨.hbm, 367, rfl⟩
abbrev main_call6_cst : Ref sig .tc := ⟨.hbm, 368, rfl⟩
abbrev main_call6_v2 : Ref sig .tc := ⟨.hbm, 369, rfl⟩
abbrev main_call6_v3 : Ref sig .tc := ⟨.hbm, 370, rfl⟩
abbrev main_call6_cst_0 : Ref sig .tc := ⟨.hbm, 371, rfl⟩
abbrev main_call6_v4 : Ref sig .tc := ⟨.hbm, 372, rfl⟩
abbrev main_call6_v5 : Ref sig .tc := ⟨.hbm, 373, rfl⟩
abbrev main_call6_v6 : Ref sig .tc := ⟨.hbm, 374, rfl⟩
abbrev main_call6_v7 : Ref sig .tc := ⟨.hbm, 375, rfl⟩
abbrev main_call6_v8 : Ref sig .tc := ⟨.hbm, 376, rfl⟩
abbrev main_call6_v9 : Ref sig .tc := ⟨.hbm, 377, rfl⟩
abbrev main_call6_v10 : Ref sig .tc := ⟨.hbm, 378, rfl⟩
abbrev main_call6_cst_1 : Ref sig .tc := ⟨.hbm, 379, rfl⟩
abbrev main_call6_v11 : Ref sig .tc := ⟨.hbm, 380, rfl⟩
abbrev main_call6_v12 : Ref sig .tc := ⟨.hbm, 381, rfl⟩
abbrev main_call6_v13 : Ref sig .tc := ⟨.hbm, 382, rfl⟩
abbrev main_call6_v14 : Ref sig .tc := ⟨.hbm, 383, rfl⟩
abbrev main_call6_call0_v0 : Ref sig .tc := ⟨.hbm, 384, rfl⟩
abbrev main_call6_call0_cst : Ref sig .tc := ⟨.hbm, 385, rfl⟩
abbrev main_call6_call0_c : Ref sig .tc := ⟨.hbm, 386, rfl⟩
abbrev main_call6_call0_v1_0 : Ref sig .tc := ⟨.hbm, 387, rfl⟩
abbrev main_call6_v15 : Ref sig .tc := ⟨.hbm, 388, rfl⟩
abbrev main_call6_call1_c : Ref sig .tc := ⟨.hbm, 389, rfl⟩
abbrev main_call6_call1_v0 : Ref sig .tc := ⟨.hbm, 390, rfl⟩
abbrev main_call6_call1_v1 : Ref sig .tc := ⟨.hbm, 391, rfl⟩
abbrev main_call6_call1_c_0 : Ref sig .tc := ⟨.hbm, 392, rfl⟩
abbrev main_call6_call1_v2 : Ref sig .tc := ⟨.hbm, 393, rfl⟩
abbrev main_call6_call1_v3 : Ref sig .tc := ⟨.hbm, 394, rfl⟩
abbrev main_call6_call1_v4 : Ref sig .tc := ⟨.hbm, 395, rfl⟩
abbrev main_call6_call1_v5 : Ref sig .tc := ⟨.hbm, 396, rfl⟩
abbrev main_call6_call1_c_1 : Ref sig .tc := ⟨.hbm, 397, rfl⟩
abbrev main_call6_call1_c_2 : Ref sig .tc := ⟨.hbm, 398, rfl⟩
abbrev main_call6_call1_v6 : Ref sig .tc := ⟨.hbm, 399, rfl⟩
abbrev main_call6_call1_v7 : Ref sig .tc := ⟨.hbm, 400, rfl⟩
abbrev main_call6_call1_v8 : Ref sig .tc := ⟨.hbm, 401, rfl⟩
abbrev main_call6_call1_v9 : Ref sig .tc := ⟨.hbm, 402, rfl⟩
abbrev main_call6_call1_v10 : Ref sig .tc := ⟨.hbm, 403, rfl⟩
abbrev main_call6_call1_v11 : Ref sig .tc := ⟨.hbm, 404, rfl⟩
abbrev main_call6_call1_c_3 : Ref sig .tc := ⟨.hbm, 405, rfl⟩
abbrev main_call6_call1_v12 : Ref sig .tc := ⟨.hbm, 406, rfl⟩
abbrev main_call6_call1_v13 : Ref sig .tc := ⟨.hbm, 407, rfl⟩
abbrev main_call6_call1_v14 : Ref sig .tc := ⟨.hbm, 408, rfl⟩
abbrev main_call6_call1_cst : Ref sig .tc := ⟨.hbm, 409, rfl⟩
abbrev main_call6_call1_v15 : Ref sig .tc := ⟨.hbm, 410, rfl⟩
abbrev main_call6_v16 : Ref sig .tc := ⟨.hbm, 411, rfl⟩
abbrev main_call6_v17 : Ref sig .tc := ⟨.hbm, 412, rfl⟩
abbrev main_call6_v18 : Ref sig .tc := ⟨.hbm, 413, rfl⟩
abbrev main_call6_v19 : Ref sig .tc := ⟨.hbm, 414, rfl⟩
abbrev main_call6_cst_2 : Ref sig .tc := ⟨.hbm, 415, rfl⟩
abbrev main_call6_v20 : Ref sig .tc := ⟨.hbm, 416, rfl⟩
abbrev main_call6_cst_3 : Ref sig .tc := ⟨.hbm, 417, rfl⟩
abbrev main_v33_2 : Ref sig .tc := ⟨.hbm, 418, rfl⟩
abbrev main_call6_v22 : Ref sig .tc := ⟨.hbm, 419, rfl⟩
abbrev main_v33_0 : Ref sig .tc := ⟨.hbm, 420, rfl⟩
abbrev main_v33_1 : Ref sig .tc := ⟨.hbm, 421, rfl⟩
abbrev main_v34 : Ref sig .tc := ⟨.hbm, 422, rfl⟩
abbrev main_v35 : Ref sig .tc := ⟨.hbm, 423, rfl⟩
abbrev main_v36 : Ref sig .tc := ⟨.hbm, 424, rfl⟩
abbrev main_v37 : Ref sig .tc := ⟨.hbm, 425, rfl⟩
abbrev main_call7_v0 : Ref sig .tc := ⟨.hbm, 426, rfl⟩
abbrev main_call7_v1 : Ref sig .tc := ⟨.hbm, 427, rfl⟩
abbrev main_call7_cst : Ref sig .tc := ⟨.hbm, 428, rfl⟩
abbrev main_call7_v2 : Ref sig .tc := ⟨.hbm, 429, rfl⟩
abbrev main_call7_v3 : Ref sig .tc := ⟨.hbm, 430, rfl⟩
abbrev main_call7_cst_0 : Ref sig .tc := ⟨.hbm, 431, rfl⟩
abbrev main_call7_v4 : Ref sig .tc := ⟨.hbm, 432, rfl⟩
abbrev main_call7_v5 : Ref sig .tc := ⟨.hbm, 433, rfl⟩
abbrev main_call7_v6 : Ref sig .tc := ⟨.hbm, 434, rfl⟩
abbrev main_call7_v7 : Ref sig .tc := ⟨.hbm, 435, rfl⟩
abbrev main_call7_v8 : Ref sig .tc := ⟨.hbm, 436, rfl⟩
abbrev main_call7_v9 : Ref sig .tc := ⟨.hbm, 437, rfl⟩
abbrev main_call7_v10 : Ref sig .tc := ⟨.hbm, 438, rfl⟩
abbrev main_call7_cst_1 : Ref sig .tc := ⟨.hbm, 439, rfl⟩
abbrev main_call7_v11 : Ref sig .tc := ⟨.hbm, 440, rfl⟩
abbrev main_call7_v12 : Ref sig .tc := ⟨.hbm, 441, rfl⟩
abbrev main_call7_v13 : Ref sig .tc := ⟨.hbm, 442, rfl⟩
abbrev main_call7_v14 : Ref sig .tc := ⟨.hbm, 443, rfl⟩
abbrev main_call7_call0_v0 : Ref sig .tc := ⟨.hbm, 444, rfl⟩
abbrev main_call7_call0_cst : Ref sig .tc := ⟨.hbm, 445, rfl⟩
abbrev main_call7_call0_c : Ref sig .tc := ⟨.hbm, 446, rfl⟩
abbrev main_call7_call0_v1_0 : Ref sig .tc := ⟨.hbm, 447, rfl⟩
abbrev main_call7_v15 : Ref sig .tc := ⟨.hbm, 448, rfl⟩
abbrev main_call7_call1_c : Ref sig .tc := ⟨.hbm, 449, rfl⟩
abbrev main_call7_call1_v0 : Ref sig .tc := ⟨.hbm, 450, rfl⟩
abbrev main_call7_call1_v1 : Ref sig .tc := ⟨.hbm, 451, rfl⟩
abbrev main_call7_call1_c_0 : Ref sig .tc := ⟨.hbm, 452, rfl⟩
abbrev main_call7_call1_v2 : Ref sig .tc := ⟨.hbm, 453, rfl⟩
abbrev main_call7_call1_v3 : Ref sig .tc := ⟨.hbm, 454, rfl⟩
abbrev main_call7_call1_v4 : Ref sig .tc := ⟨.hbm, 455, rfl⟩
abbrev main_call7_call1_v5 : Ref sig .tc := ⟨.hbm, 456, rfl⟩
abbrev main_call7_call1_c_1 : Ref sig .tc := ⟨.hbm, 457, rfl⟩
abbrev main_call7_call1_c_2 : Ref sig .tc := ⟨.hbm, 458, rfl⟩
abbrev main_call7_call1_v6 : Ref sig .tc := ⟨.hbm, 459, rfl⟩
abbrev main_call7_call1_v7 : Ref sig .tc := ⟨.hbm, 460, rfl⟩
abbrev main_call7_call1_v8 : Ref sig .tc := ⟨.hbm, 461, rfl⟩
abbrev main_call7_call1_v9 : Ref sig .tc := ⟨.hbm, 462, rfl⟩
abbrev main_call7_call1_v10 : Ref sig .tc := ⟨.hbm, 463, rfl⟩
abbrev main_call7_call1_v11 : Ref sig .tc := ⟨.hbm, 464, rfl⟩
abbrev main_call7_call1_c_3 : Ref sig .tc := ⟨.hbm, 465, rfl⟩
abbrev main_call7_call1_v12 : Ref sig .tc := ⟨.hbm, 466, rfl⟩
abbrev main_call7_call1_v13 : Ref sig .tc := ⟨.hbm, 467, rfl⟩
abbrev main_call7_call1_v14 : Ref sig .tc := ⟨.hbm, 468, rfl⟩
abbrev main_call7_call1_cst : Ref sig .tc := ⟨.hbm, 469, rfl⟩
abbrev main_call7_call1_v15 : Ref sig .tc := ⟨.hbm, 470, rfl⟩
abbrev main_call7_v16 : Ref sig .tc := ⟨.hbm, 471, rfl⟩
abbrev main_call7_v17 : Ref sig .tc := ⟨.hbm, 472, rfl⟩
abbrev main_call7_v18 : Ref sig .tc := ⟨.hbm, 473, rfl⟩
abbrev main_call7_v19 : Ref sig .tc := ⟨.hbm, 474, rfl⟩
abbrev main_call7_cst_2 : Ref sig .tc := ⟨.hbm, 475, rfl⟩
abbrev main_call7_v20 : Ref sig .tc := ⟨.hbm, 476, rfl⟩
abbrev main_call7_cst_3 : Ref sig .tc := ⟨.hbm, 477, rfl⟩
abbrev main_v38_2 : Ref sig .tc := ⟨.hbm, 478, rfl⟩
abbrev main_call7_v22 : Ref sig .tc := ⟨.hbm, 479, rfl⟩
abbrev main_v38_0 : Ref sig .tc := ⟨.hbm, 480, rfl⟩
abbrev main_v38_1 : Ref sig .tc := ⟨.hbm, 481, rfl⟩
abbrev main_v39 : Ref sig .tc := ⟨.hbm, 482, rfl⟩
abbrev main_v40 : Ref sig .tc := ⟨.hbm, 483, rfl⟩
abbrev main_v41 : Ref sig .tc := ⟨.hbm, 484, rfl⟩
abbrev main_v42 : Ref sig .tc := ⟨.hbm, 485, rfl⟩
abbrev main_v43 : Ref sig .tc := ⟨.hbm, 486, rfl⟩
abbrev main_v44 : Ref sig .tc := ⟨.hbm, 487, rfl⟩
abbrev main_v45 : Ref sig .tc := ⟨.hbm, 488, rfl⟩
abbrev main_v46 : Ref sig .tc := ⟨.hbm, 489, rfl⟩
abbrev main_v47 : Ref sig .tc := ⟨.hbm, 490, rfl⟩
abbrev main_v48 : Ref sig .tc := ⟨.hbm, 491, rfl⟩
abbrev main_v49 : Ref sig .tc := ⟨.hbm, 492, rfl⟩
abbrev main_v50 : Ref sig .tc := ⟨.hbm, 493, rfl⟩
abbrev main_v51 : Ref sig .tc := ⟨.hbm, 494, rfl⟩
abbrev main_v52 : Ref sig .tc := ⟨.hbm, 495, rfl⟩
abbrev main_v53 : Ref sig .tc := ⟨.hbm, 496, rfl⟩
abbrev main_v54 : Ref sig .tc := ⟨.hbm, 497, rfl⟩
abbrev main_v55 : Ref sig .tc := ⟨.hbm, 498, rfl⟩
abbrev main_v56 : Ref sig .tc := ⟨.hbm, 499, rfl⟩
abbrev main_v57 : Ref sig .tc := ⟨.hbm, 500, rfl⟩
abbrev main_v58 : Ref sig .tc := ⟨.hbm, 501, rfl⟩

abbrev nD : Nat := 1
abbrev τ : Topo := Topo.v7x

variable {F : FTy → Type} [FloatOps F]
-- ==== Proof.Rvq.Spec.lean ====
/-
  One row of the quantizer on the extended reals: the squared distance of a row to a code, the first nearest code, what a
  stage adds to the result, leaves for the next stage and adds to its loss, and the chain of stages. Both programs are
  read off as these functions of the rows of their arguments.
-/
module

public import Idealize.ShloMosaic.Lib.Pointwise
public import Idealize.ShloMosaic.PureOps.Ideal
public import Idealize.ShloMosaic.PureOps.Ideal.Laws
public import Idealize.ShloMosaic.PureOps.Reduce

@[expose] public section

noncomputable section

namespace Cert.Rvq

open Idealize.ShloMosaic

/-- One token's vector. -/
abbrev Row := Fin 256 → EReal
/-- One stage's codes. -/
abbrev Book := Fin 1024 → Row

/-- The squared distance of a row to code `k`, expanded. -/
def dist (r : Row) (e : Book) (k : Fin 1024) : EReal :=
  ((∑ j, r j * r j) - 2 * ∑ j, r j * e k j) + ∑ j, e k j * e k j

/-- `k` is the least index at which `d` is least. -/
def IsFirst (d : Fin 1024 → EReal) (k : Fin 1024) : Prop :=
  (∀ l, d k ≤ d l) ∧ ∀ l, d l = d k → k ≤ l

/-- Some index is. -/
theorem exists_first (d : Fin 1024 → EReal) : ∃ k, IsFirst d k := by
  obtain ⟨k₀, -, h₀⟩ := Finset.exists_min_image Finset.univ d ⟨0, Finset.mem_univ _⟩
  obtain ⟨k, hk, h⟩ := Finset.exists_min_image (Finset.univ.filter fun k => d k = d k₀) id
    ⟨k₀, Finset.mem_filter.2 ⟨Finset.mem_univ _, rfl⟩⟩
  have hk' : d k = d k₀ := (Finset.mem_filter.1 hk).2
  exact ⟨k, fun l => hk' ▸ h₀ l (Finset.mem_univ _),
    fun l hl => h l (Finset.mem_filter.2 ⟨Finset.mem_univ _, hl.trans hk'⟩)⟩

/-- The least index at which `d` is least. -/
def first (d : Fin 1024 → EReal) : Fin 1024 := (exists_first d).choose

theorem first_spec (d : Fin 1024 → EReal) : IsFirst d (first d) := (exists_first d).choose_spec

/-- The code a row is sent to. -/
def pick (r : Row) (e : Book) : Fin 1024 := first (dist r e)

/-- The code's difference to the row. -/
def diff (r : Row) (e : Book) : Row := fun j => e (pick r e) j - r j
/-- What a stage adds to the result: the row and that difference. -/
def code (r : Row) (e : Book) : Row := fun j => r j + diff r e j
/-- What a stage leaves for the next one. -/
def rest (r : Row) (e : Book) : Row := fun j => r j - code r e j

/-- The row stage `n` starts from. -/
def resid (r : Row) (e : Nat → Book) : Nat → Row
  | 0 => r
  | n + 1 => rest (resid r e n) (e n)

/-- The sum of what the first `n` stages add. -/
def total (r : Row) (e : Nat → Book) : Nat → Row
  | 0 => fun _ => 0
  | n + 1 => fun j => total r e n j + code (resid r e n) (e n) j

/-- The code stage `n` picks. -/
def index (r : Row) (e : Nat → Book) (n : Nat) : Fin 1024 := pick (resid r e n) (e n)
/-- The squared difference at stage `n`. -/
def err (r : Row) (e : Nat → Book) (n : Nat) : Row :=
  fun j => diff (resid r e n) (e n) j * diff (resid r e n) (e n) j

/-- A least index is the one `first` names. -/
theorem IsFirst.eq {d : Fin 1024 → EReal} {k l : Fin 1024} (hk : IsFirst d k) (hl : IsFirst d l) : k = l :=
  have e : d k = d l := le_antisymm (hk.1 l) (hl.1 k)
  le_antisymm (hk.2 l e.symm) (hl.2 k e)

/-- Twice a sum is the sum of the doubles, infinite terms included. -/
theorem two_mul_sum {ι : Type} (s : Finset ι) (f : ι → EReal) : 2 * ∑ i ∈ s, f i = ∑ i ∈ s, 2 * f i := by
  classical
  induction s using Finset.induction_on with
  | empty => simp
  | insert a s ha ih =>
    rw [Finset.sum_insert ha, Finset.sum_insert ha, ← ih]
    exact EReal.left_distrib_of_nonneg_of_ne_top (by norm_num) (EReal.coe_ne_top 2) _ _

/-- The float constant two is two. -/
theorem ofBits_two : Ideal.ofBits .f32 0x40000000#32 = 2 := by
  simp [Ideal.ofBits, Ideal.ieee, -EReal.coe_mul]; norm_num; rfl

/-- The float constant infinity is the top element. -/
theorem ofBits_inf : Ideal.ofBits .f32 0x7F800000#32 = ⊤ := by
  simp [Ideal.ofBits, Ideal.ieee, -EReal.coe_mul]

end Cert.Rvq
-- ==== Proof.Rvq.Norms.lean ====
/- The sum of 256 numbers as the kernel adds them up: 16 groups of 8 rows from either half of a
   transposed block, and then a tree over the 8 rows that are left. -/
module

public import Idealize.ShloMosaic.Lib.Pointwise
public import proofs.«01_k».proof.Proof.Rvq.Spec

@[expose] public section

noncomputable section

namespace Cert.Rvq

open Idealize.ShloMosaic

/-- Rows `o … o+m-1` of a matrix of `p` rows lie inside it. -/
theorem slices_rows {m n o p : Nat} (h : o + m ≤ p) :
    (⟨2, ![p, n]⟩ : Shape).Slices ![o, 0] ⟨2, ![m, n]⟩ :=
  ⟨rfl, fun a => by fin_cases a <;> simp <;> omega⟩

/-- Rows `o … o+m-1` of a matrix. -/
def rows {m n p : Nat} (o : Nat) (x : FVec Ideal ⟨2, ![p, n]⟩ .f32) (h : o + m ≤ p := by omega) :
    FVec Ideal ⟨2, ![m, n]⟩ .f32 :=
  extractStridedSlice ⟨2, ![m, n]⟩ ![o, 0] x (slices_rows h)

theorem rows_apply {m n p o : Nat} (x : FVec Ideal ⟨2, ![p, n]⟩ .f32) (h : o + m ≤ p) (i : Fin m)
    (c : Fin n) : rows o x h (ix2 i c) = x (ix2 ⟨o + i.val, by omega⟩ c) :=
  extractStridedSlice_apply _ _ _ _ _ fun a => by fin_cases a <;> simp

/-- Eight rows from `o` on plus the eight rows 128 further down. -/
def halves {n : Nat} (o : Nat) (x : FVec Ideal ⟨2, ![256, n]⟩ .f32) (h : 128 + o + 8 ≤ 256 := by omega) :
    FVec Ideal ⟨2, ![8, n]⟩ .f32 :=
  addf (rows o x) (rows (128 + o) x)

/-- The sixteen groups of eight rows added up, one after the other. -/
def groups {n : Nat} (x : FVec Ideal ⟨2, ![256, n]⟩ .f32) : FVec Ideal ⟨2, ![8, n]⟩ .f32 :=
  addf (addf (addf (addf (addf (addf (addf (addf (addf (addf (addf (addf (addf (addf (addf
    (halves 0 x) (halves 8 x)) (halves 16 x)) (halves 24 x)) (halves 32 x)) (halves 40 x))
    (halves 48 x)) (halves 56 x)) (halves 64 x)) (halves 72 x)) (halves 80 x)) (halves 88 x))
    (halves 96 x)) (halves 104 x)) (halves 112 x)) (halves 120 x)

/-- Two rows added. -/
def fold2 {n : Nat} (x : FVec Ideal ⟨2, ![2, n]⟩ .f32) : FVec Ideal ⟨2, ![1, n]⟩ .f32 :=
  addf (rows 0 x) (rows 1 x)

/-- Four rows: the upper two plus the lower two, then those added. -/
def fold4 {n : Nat} (x : FVec Ideal ⟨2, ![4, n]⟩ .f32) : FVec Ideal ⟨2, ![1, n]⟩ .f32 :=
  fold2 (addf (rows 0 x) (rows 2 x))

/-- Eight rows: the upper four plus the lower four, and so on down to one row. -/
def fold8 {n : Nat} (x : FVec Ideal ⟨2, ![8, n]⟩ .f32) : FVec Ideal ⟨2, ![1, n]⟩ .f32 :=
  fold4 (addf (rows 0 x) (rows 4 x))

/-- The tree over eight rows adds up the column. -/
theorem fold8_apply {n : Nat} (x : FVec Ideal ⟨2, ![8, n]⟩ .f32) (c : Fin n) :
    fold8 x (ix2 0 c) = ∑ i : Fin 8, x (ix2 i c) := by
  have h : fold8 x (ix2 0 c) = ((x (ix2 0 c) + x (ix2 4 c)) + (x (ix2 2 c) + x (ix2 6 c)))
      + ((x (ix2 1 c) + x (ix2 5 c)) + (x (ix2 3 c) + x (ix2 7 c))) := by
    simp only [fold8, fold4, fold2, ValueIdx.addf_apply, rows_apply]
    rfl
  rw [h, Fin.sum_univ_eight]
  abel

/-- A sum of sixteen, term by term. -/
theorem sum_sixteen (f : Fin 16 → EReal) : ∑ k, f k = f 0 + f 1 + f 2 + f 3 + f 4 + f 5 + f 6 + f 7
    + f 8 + f 9 + f 10 + f 11 + f 12 + f 13 + f 14 + f 15 := by
  simp only [Fin.sum_univ_castSucc, Finset.univ_eq_empty, Finset.sum_empty, zero_add]
  rfl

/-- The sixteen groups add up, for every row of the eight, the sixteen rows of either half. -/
theorem groups_apply {n : Nat} (x : FVec Ideal ⟨2, ![256, n]⟩ .f32) (i : Fin 8) (c : Fin n) :
    groups x (ix2 i c) = ∑ k : Fin 16, (x (ix2 ⟨8 * k.val + i.val, by omega⟩ c)
      + x (ix2 ⟨128 + 8 * k.val + i.val, by omega⟩ c)) := by
  rw [sum_sixteen]
  simp only [groups, halves, ValueIdx.addf_apply, rows_apply]
  rfl

/-- 256 numbers added up in 16 groups of 8 from either half. -/
theorem sum_regroup (g : Fin 256 → EReal) :
    ∑ i : Fin 8, ∑ k : Fin 16, (g ⟨8 * k.val + i.val, by omega⟩ + g ⟨128 + 8 * k.val + i.val, by omega⟩)
      = ∑ j, g j := by
  have h1 : ∑ j, g j = ∑ p : Fin 32 × Fin 8, g ⟨p.2.val + 8 * p.1.val, by omega⟩ :=
    (Fintype.sum_equiv (finProdFinEquiv (m := 32) (n := 8)) _ _ fun p => rfl).symm
  have h2 (f : Fin 32 → EReal) : ∑ a, f a = ∑ k : Fin 16, (f ⟨k.val, by omega⟩ + f ⟨16 + k.val, by omega⟩) := by
    rw [Finset.sum_add_distrib]
    exact Fin.sum_univ_add (a := 16) (b := 16) f
  rw [h1, Fintype.sum_prod_type, h2, Finset.sum_comm]
  refine Finset.sum_congr rfl fun k _ => ?_
  rw [Finset.sum_add_distrib]
  congr 1
  · exact Finset.sum_congr rfl fun i _ => congrArg g (Fin.ext (by simp; omega))
  · exact Finset.sum_congr rfl fun i _ => congrArg g (Fin.ext (by simp; omega))

/-- The groups and the tree together add up a column of 256. -/
theorem fold8_groups {n : Nat} (x : FVec Ideal ⟨2, ![256, n]⟩ .f32) (c : Fin n) :
    fold8 (groups x) (ix2 0 c) = ∑ j : Fin 256, x (ix2 j c) := by
  rw [fold8_apply, ← sum_regroup]
  exact Finset.sum_congr rfl fun i _ => groups_apply x i c

end Cert.Rvq
-- ==== Proof.Rvq.Pick.lean ====
/-
  Three ways to the first nearest code: the least value by a fold of minima, its least index by an integer fold of minima
  over the indices that hold it, and both at once by a fold over (value, index) pairs in any order.
-/
module

public import proofs.«01_k».proof.Proof.Rvq.Spec

@[expose] public section

noncomputable section

namespace Cert.Rvq

open Idealize.ShloMosaic

/-- The fold of minima is the value at the first least index. -/
theorem fold_min_eq (d : Fin 1024 → EReal) : Finset.univ.fold min ⊤ d = d (first d) :=
  le_antisymm ((Finset.fold_min_le _).2 (.inr ⟨first d, Finset.mem_univ _, le_rfl⟩))
    ((Finset.le_fold_min _).2 ⟨le_top, fun l _ => (first_spec d).1 l⟩)

/-- The signed value of an index word. -/
theorem toInt_index (k : Nat) (h : k < 2 ^ 31) : (BitVec.ofNat 32 k).toInt = k := by
  rw [BitVec.toInt_eq_toNat_of_lt (by rw [BitVec.toNat_ofNat]; omega), BitVec.toNat_ofNat]
  omega

theorem toInt_minsi (x y : BitVec 32) : (IntOp.minsi x y).toInt = min x.toInt y.toInt := by
  unfold IntOp.minsi
  rw [BitVec.slt_eq_decide]
  by_cases h : x.toInt < y.toInt
  · simp [h, min_eq_left h.le]
  · simp [h, min_eq_right (not_lt.1 h)]

/-- A fold of integer minima, read as integers. -/
theorem toInt_fold_minsi {ι : Type} (s : Finset ι) (b : BitVec 32) (f : ι → BitVec 32) :
    (s.fold IntOp.minsi b f).toInt = s.fold min b.toInt fun i => (f i).toInt := by
  classical
  induction s using Finset.induction_on with
  | empty => simp
  | insert a s ha ih => rw [Finset.fold_insert ha, Finset.fold_insert ha, toInt_minsi, ih]

/-- The integer fold over the indices whose value is the least one is the first of them. -/
theorem fold_minsi_eq (d : Fin 1024 → EReal) (w : Fin 1024 → BitVec 32)
    (hw : ∀ k, w k = if d k = d (first d) then BitVec.ofNat 32 k.val else 1024#32) :
    Finset.univ.fold IntOp.minsi 2147483647#32 w = BitVec.ofNat 32 (first d).val := by
  have hf := first_spec d
  have hk := (first d).isLt
  apply BitVec.eq_of_toInt_eq
  rw [toInt_fold_minsi, toInt_index (first d).val (by omega)]
  apply le_antisymm
  · refine (Finset.fold_min_le _).2 (.inr ⟨first d, Finset.mem_univ _, ?_⟩)
    rw [hw, if_pos rfl, toInt_index (first d).val (by omega)]
  · refine (Finset.le_fold_min _).2 ⟨?_, fun l _ => ?_⟩
    · rw [show (2147483647#32 : BitVec 32).toInt = 2147483647 from by decide]; omega
    · have hl := l.isLt
      rw [hw]
      by_cases h : d l = d (first d)
      · rw [if_pos h, toInt_index _ (by omega)]
        exact_mod_cast hf.2 l h
      · rw [if_neg h, show (1024#32 : BitVec 32).toInt = 1024 from by decide]; omega

/-! ### A fold over pairs -/

/-- The order of pairs: by value, then by index. -/
def Le (a b : EReal × BitVec 32) : Prop := a.1 < b.1 ∨ (a.1 = b.1 ∧ a.2.toInt ≤ b.2.toInt)

theorem Le.refl (a : EReal × BitVec 32) : Le a a := .inr ⟨rfl, le_rfl⟩

theorem Le.trans {a b c : EReal × BitVec 32} (h : Le a b) (h' : Le b c) : Le a c := by
  rcases h with h | ⟨h, i⟩ <;> rcases h' with h' | ⟨h', i'⟩
  · exact .inl (h.trans h')
  · exact .inl (h' ▸ h)
  · exact .inl (h ▸ h')
  · exact .inr ⟨h.trans h', i.trans i'⟩

theorem Le.antisymm {a b : EReal × BitVec 32} (h : Le a b) (h' : Le b a) : a = b := by
  rcases h with h | ⟨h, i⟩ <;> rcases h' with h' | ⟨h', i'⟩
  · exact absurd h' (lt_asymm h)
  · exact absurd h (h' ▸ lt_irrefl _)
  · exact absurd h' (h ▸ lt_irrefl _)
  · exact Prod.ext h (BitVec.eq_of_toInt_eq (le_antisymm i i'))

/-- A function that returns the lesser of two pairs, folded over a list, returns a pair of the list (or the initial one)
    that is below all of them. -/
theorem foldl_le (f : EReal × BitVec 32 → EReal × BitVec 32 → EReal × BitVec 32)
    (hf : ∀ a b, (f a b = a ∧ Le a b) ∨ (f a b = b ∧ Le b a)) (l : List (EReal × BitVec 32)) :
    ∀ b, (l.foldl f b = b ∨ l.foldl f b ∈ l) ∧ Le (l.foldl f b) b ∧ ∀ p ∈ l, Le (l.foldl f b) p := by
  induction l with
  | nil => exact fun b => ⟨.inl rfl, Le.refl _, fun p hp => absurd hp List.not_mem_nil⟩
  | cons a l ih =>
    intro b
    obtain ⟨h₁, h₂, h₃⟩ := ih (f b a)
    rw [List.foldl_cons]
    have hb : Le (f b a) b := by
      rcases hf b a with ⟨e, h⟩ | ⟨e, h⟩
      · rw [e]; exact Le.refl _
      · rw [e]; exact h
    have ha : Le (f b a) a := by
      rcases hf b a with ⟨e, h⟩ | ⟨e, h⟩
      · rw [e]; exact h
      · rw [e]; exact Le.refl _
    refine ⟨?_, h₂.trans hb, ?_⟩
    · rcases h₁ with h₁ | h₁
      · rcases hf b a with ⟨e, -⟩ | ⟨e, -⟩
        · exact .inl (h₁.trans e)
        · exact .inr (List.mem_cons.2 (.inl (h₁.trans e)))
      · exact .inr (List.mem_cons.2 (.inr h₁))
    · intro p hp
      rcases List.mem_cons.1 hp with rfl | hp
      · exact h₂.trans ha
      · exact h₃ p hp

/-- So over the pairs of the 1024 values with their indices it returns the first least one. -/
theorem foldl_eq_first (f : EReal × BitVec 32 → EReal × BitVec 32 → EReal × BitVec 32)
    (hf : ∀ a b, (f a b = a ∧ Le a b) ∨ (f a b = b ∧ Le b a)) (d : Fin 1024 → EReal)
    (l : List (EReal × BitVec 32)) (hl : ∀ p, p ∈ l ↔ ∃ k : Fin 1024, p = (d k, BitVec.ofNat 32 k.val)) :
    l.foldl f (⊤, 0#32) = (d (first d), BitVec.ofNat 32 (first d).val) := by
  obtain ⟨h₁, h₂, h₃⟩ := foldl_le f hf l (⊤, 0#32)
  have hd := first_spec d
  have least : ∀ k : Fin 1024, Le (d (first d), BitVec.ofNat 32 (first d).val) (d k, BitVec.ofNat 32 k.val) := by
    intro k
    rcases (hd.1 k).lt_or_eq with h | h
    · exact .inl h
    · refine .inr ⟨h, ?_⟩
      have := (first d).isLt
      have := k.isLt
      rw [toInt_index _ (by omega), toInt_index _ (by omega)]
      exact_mod_cast hd.2 k h.symm
  refine Le.antisymm (h₃ _ ((hl _).2 ⟨first d, rfl⟩)) ?_
  rcases h₁ with h | h
  · rw [h]
    refine (least 0).trans ?_
    rcases (le_top : d 0 ≤ ⊤).lt_or_eq with h | h
    · exact .inl h
    · exact .inr ⟨h, le_rfl⟩
  · obtain ⟨k, e⟩ := (hl _).1 h
    rw [e]; exact least k

end Cert.Rvq
-- ==== Proof.Rvq.Nearest.lean ====
/- One stage of the kernel on a block of 2048 rows, up to the index it picks: the distances of every
   row to every code, the least of them, and the first code that has it. -/
module

public import Idealize.ShloMosaic.Lib.MatmulPlain
public import proofs.«01_k».proof.Proof.Gen.KernelIdeal.Skeleton
public import proofs.«01_k».proof.Proof.Rvq.Norms
public import proofs.«01_k».proof.Proof.Rvq.Pick

@[expose] public section

noncomputable section

namespace Cert.Rvq

open Idealize.ShloMosaic Cert.KernelIdeal Cert.KernelIdeal.Gen

/-- A block of rows. -/
local notation "Block" => FVec Ideal S2048x256 FTy.f32
/-- A codebook. -/
local notation "Codes" => FVec Ideal S1024x256 FTy.f32

/-- Row `i` of a block. -/
def row (R : Block) (i : Fin 2048) : Row := fun j => R (ix2 i j)

/-- A codebook's rows. -/
def book (E : Codes) : Book := fun k j => E (ix2 k j)

/-- The squares of a codebook, transposed. -/
def squares (E : Codes) : FVec Ideal S256x1024 .f32 :=
  transpose S256x1024 [1, 0] (mulf E E) transposes_S1024x256_p1_0_S256x1024

/-- The squared norms of a codebook. -/
def norms (E : Codes) : FVec Ideal S1x1024 .f32 := fold8 (groups (squares E))

theorem norms_apply (E : Codes) (k : Fin 1024) :
    norms E (ix2 0 k) = ∑ j, book E k j * book E k j := by
  refine (fold8_groups _ _).trans (Finset.sum_congr rfl fun j _ => ?_)
  exact transpose_apply _ _ _ (ix2 j k) (ix2 k j) fun b => by fin_cases b <;> rfl

/-- The squares of a block, transposed. -/
def blockSquares (R : Block) : FVec Ideal S256x2048 .f32 :=
  transpose S256x2048 [1, 0] (mulf R R) transposes_S2048x256_p1_0_S256x2048

/-- The squared norms of a block's rows, as a row. -/
def sizes (R : Block) : FVec Ideal S1x2048 .f32 := fold8 (groups (blockSquares R))

theorem sizes_apply (R : Block) (i : Fin 2048) : sizes R (ix2 0 i) = ∑ j, row R i j * row R i j := by
  refine (fold8_groups _ _).trans (Finset.sum_congr rfl fun j _ => ?_)
  exact transpose_apply _ _ _ (ix2 j i) (ix2 i j) fun b => by fin_cases b <;> rfl

/-- The products of a block's rows with the codes. -/
def inner (R : Block) (E : Codes) : FVec Ideal S2048x1024 .f32 :=
  matmul dot_S2048x256_S1024x256_S2048x1024_1_1_0_0_n_n none R E (constant S2048x1024 .f32 0x00000000#32)

theorem inner_apply (R : Block) (E : Codes) (i : Fin 2048) (k : Fin 1024) :
    inner R E (ix2 i k) = ∑ j, row R i j * book E k j := by
  exact (Ideal.matmul_transposedRhs_apply none R E _ i k).trans
    ((congrArg (· + _) (Ideal.ofBits_zero FTy.f32)).trans (zero_add _))

/-- The distances of a block's rows to the codes. -/
def dists (R : Block) (E : Codes) : FVec Ideal S2048x1024 .f32 :=
  addf (subf (broadcastTo S2048x1024 (transpose S2048x1 [1, 0] (sizes R) transposes_S1x2048_p1_0_S2048x1)
      broadcasts_S2048x1_S2048x1024)
    (mulf (broadcast S2048x1024 (Scalar.ofBits .f32 0x40000000#32)) (inner R E)))
    (broadcastTo S2048x1024 (norms E) broadcasts_S1x1024_S2048x1024)

theorem dists_apply (R : Block) (E : Codes) (i : Fin 2048) (k : Fin 1024) :
    dists R E (ix2 i k) = dist (row R i) (book E) k := by
  have h1 : broadcastTo S2048x1024 (transpose S2048x1 [1, 0] (sizes R) transposes_S1x2048_p1_0_S2048x1)
      broadcasts_S2048x1_S2048x1024 (ix2 i k) = ∑ j, row R i j * row R i j := by
    rw [broadcastTo_apply _ _ (ix2 i k) (ix2 i 0) fun a => by fin_cases a <;> rfl,
      transpose_apply _ _ _ (ix2 i 0) (ix2 0 i) fun b => by fin_cases b <;> rfl, sizes_apply]
  have h2 : broadcastTo S2048x1024 (norms E) broadcasts_S1x1024_S2048x1024 (ix2 i k)
      = ∑ j, book E k j * book E k j := by
    rw [broadcastTo_apply _ _ (ix2 i k) (ix2 0 k) fun a => by fin_cases a <;> rfl, norms_apply]
  have h3 : broadcast S2048x1024 (Scalar.ofBits (F := Ideal) .f32 0x40000000#32) (ix2 i k) = (2 : EReal) :=
    ofBits_two
  rw [dists, ValueIdx.addf_apply, ValueIdx.subf_apply, ValueIdx.mulf_apply, h1, h2, h3, inner_apply]
  rfl

/-- The least distance of every row. -/
def least (R : Block) (E : Codes) : FVec Ideal S2048 .f32 :=
  multiReduction .minimumf [1] S2048 (dists R E) 0x7F800000#32 reduces_S2048x1024_S2048 (.inl rfl) rfl

theorem least_apply (R : Block) (E : Codes) (i : Fin 2048) :
    least R E (ix1 i) = dist (row R i) (book E) (pick (row R i) (book E)) := by
  have h : least R E (ix1 i) = Finset.univ.fold min ⊤ fun k => dists R E (ix2 i k) := by
    unfold least
    simp only [pointwise, ofBits_inf]
  rw [h, pick, ← fold_min_eq (dist (row R i) (book E))]
  exact Finset.fold_congr fun k _ => dists_apply R E i k

/-- For every row, the codes' own indices where the distance is the least and 1024 elsewhere. -/
def mask (R : Block) (E : Codes) : IVec S2048x1024 32 :=
  k0_pay13 (F := Ideal) R E (norms E) (k0_pay10 R) (k0_pay11 R) (k0_pay12 R)

theorem mask_eq (R : Block) (E : Codes) : mask R E
    = select (cmpf .oeq (dists R E) (broadcastTo S2048x1024 (shapeCast S2048x1 (least R E) shapeCasts_S2048_S2048x1)
        broadcasts_S2048x1_S2048x1024))
      (iota .tc S2048x1024 32 [1] iota_S2048x1024_d1_w32) (broadcast S2048x1024 1024#32) := rfl

theorem mask_apply (R : Block) (E : Codes) (i : Fin 2048) (k : Fin 1024) :
    mask R E (ix2 i k) = if dist (row R i) (book E) k = dist (row R i) (book E) (pick (row R i) (book E))
      then BitVec.ofNat 32 k.val else 1024#32 := by
  have h1 : broadcastTo S2048x1024 (shapeCast S2048x1 (least R E) shapeCasts_S2048_S2048x1)
      broadcasts_S2048x1_S2048x1024 (ix2 i k) = dist (row R i) (book E) (pick (row R i) (book E)) := by
    rw [broadcastTo_apply _ _ (ix2 i k) (ix2 i 0) fun a => by fin_cases a <;> rfl, ← least_apply]
    pointwise
  have h2 : iota .tc S2048x1024 32 [1] iota_S2048x1024_d1_w32 (ix2 i k) = BitVec.ofNat 32 k.val :=
    iota_single_apply _ _ _ _ _ _
  have h3 : cmpf .oeq (dists R E) (broadcastTo S2048x1024 (shapeCast S2048x1 (least R E) shapeCasts_S2048_S2048x1)
      broadcasts_S2048x1_S2048x1024) (ix2 i k)
      = BitVec.ofBool (decide (dist (row R i) (book E) k = dist (row R i) (book E) (pick (row R i) (book E)))) := by
    rw [← h1, ← dists_apply]
    rfl
  rw [mask_eq]
  show (if _ = 1#1 then _ else _) = _
  rw [h2, h3]
  by_cases h : dist (row R i) (book E) k = dist (row R i) (book E) (pick (row R i) (book E))
  · simp [h]
  · simp [h, broadcast]

theorem index_apply (R : Block) (E : Codes) (i : Fin 2048) :
    k0_pay14 (mask R E) (ix1 i) = BitVec.ofNat 32 (pick (row R i) (book E)).val := by
  have h : k0_pay14 (mask R E) (ix1 i)
      = Finset.univ.fold IntOp.minsi 2147483647#32 fun k => mask R E (ix2 i k) := by
    unfold k0_pay14
    simp only [pointwise]
  rw [h]
  exact fold_minsi_eq _ _ fun k => mask_apply R E i k

end Cert.Rvq
-- ==== Proof.Rvq.Stage.lean ====
/- One stage of the kernel on a block of 2048 rows, from the index it picks: the product that looks the code up, and what
   the stage adds to the result, leaves for the next one and adds to its loss. The codes are finite. -/
module

public import proofs.«01_k».proof.Proof.Rvq.Nearest

@[expose] public section

noncomputable section

namespace Cert.Rvq

open Idealize.ShloMosaic Cert.KernelIdeal Cert.KernelIdeal.Gen

/-- A block of rows. -/
local notation "Block" => FVec Ideal S2048x256 FTy.f32
/-- A codebook. -/
local notation "Codes" => FVec Ideal S1024x256 FTy.f32

/-- Every entry of a codebook is a real number. -/
def Finite (e : Book) : Prop := ∀ k j, e k j ≠ ⊤ ∧ e k j ≠ ⊥

/-- The rows of zeros and ones that select a code, three times over. -/
def hot (M : IVec S2048x1024 32) : FVec Ideal S2048x3072 .bf16 :=
  truncf .bf16 (sitofp .f32 (extui 32 (cmpi .eq
    (remsi (iota .tc S2048x3072 32 [1] iota_S2048x3072_d1_w32) (broadcast S2048x3072 1024#32))
    (broadcastTo S2048x3072 (shapeCast S2048x1 (k0_pay14 M) shapeCasts_S2048_S2048x1) broadcasts_S2048x1_S2048x3072))
    natLt_1_32)) bitsLt_bf16_f32

/-- The codes cut to the narrow format. -/
def part1 (E : Codes) : FVec Ideal S1024x256 .bf16 := truncf .bf16 E bitsLt_bf16_f32
/-- What that leaves. -/
def left1 (E : Codes) : Codes := subf E (extf .f32 (part1 E) bitsLt_bf16_f32)
/-- The remainder cut to the narrow format. -/
def part2 (E : Codes) : FVec Ideal S1024x256 .bf16 := truncf .bf16 (left1 E) bitsLt_bf16_f32
/-- What that leaves, cut to the narrow format. -/
def part3 (E : Codes) : FVec Ideal S1024x256 .bf16 :=
  truncf .bf16 (subf (left1 E) (extf .f32 (part2 E) bitsLt_bf16_f32)) bitsLt_bf16_f32

/-- The three parts below one another. -/
def parts (E : Codes) : FVec Ideal S3072x256 .bf16 :=
  concatenate S3072x256 0 [⟨S1024x256, part1 E⟩, ⟨S1024x256, part2 E⟩, ⟨S1024x256, part3 E⟩]
    concatenates_S1024x256_S1024x256_S1024x256_S3072x256_d0

/-- The product that looks the codes up. -/
def looked (E : Codes) (M : IVec S2048x1024 32) : Block :=
  matmul dot_S2048x3072_S3072x256_S2048x256_1_0_0_1_n_n none (hot M) (parts E) (constant S2048x256 .f32 0x00000000#32)

theorem rem_apply (c : Fin 3072) : IntOp.remsi .vector (BitVec.ofNat 32 c.val) 1024#32 = BitVec.ofNat 32 (c.val % 1024) := by
  have h1 : (BitVec.ofNat 32 c.val).msb = false := by
    rw [BitVec.msb_eq_false_iff_two_mul_lt, BitVec.toNat_ofNat]; omega
  have h2 : ¬ IntOp.SDivCorner (BitVec.ofNat 32 c.val) 1024#32 := by simp [IntOp.SDivCorner]
  rw [IntOp.remsi, if_neg h2, BitVec.srem_eq, h1]
  refine BitVec.eq_of_toNat_eq ?_
  show ((BitVec.ofNat 32 c.val) % 1024#32).toNat = _
  rw [BitVec.toNat_umod, BitVec.toNat_ofNat, BitVec.toNat_ofNat, BitVec.toNat_ofNat]
  show c.val % 4294967296 % 1024 = c.val % 1024 % 4294967296
  omega

theorem hot_apply (M : IVec S2048x1024 32) (i : Fin 2048) (k : Fin 1024) (h : k0_pay14 M (ix1 i) = BitVec.ofNat 32 k.val)
    (c : Fin 3072) : hot M (ix2 i c) = if c.val % 1024 = k.val then (1 : EReal) else 0 := by
  have h1 : broadcastTo S2048x3072 (shapeCast S2048x1 (k0_pay14 M) shapeCasts_S2048_S2048x1)
      broadcasts_S2048x1_S2048x3072 (ix2 i c) = BitVec.ofNat 32 k.val := by
    rw [broadcastTo_apply _ _ (ix2 i c) (ix2 i 0) fun a => by fin_cases a <;> rfl, ← h]
    exact shapeCast_apply _ _ _ (ix1 i) (by rw [Shape.rowMajor_val_two, Shape.rowMajor_val_one]; simp)
  have h2 : remsi (iota .tc S2048x3072 32 [1] iota_S2048x3072_d1_w32) (broadcast S2048x3072 1024#32) (ix2 i c)
      = BitVec.ofNat 32 (c.val % 1024) :=
    (congrArg (fun z => IntOp.remsi .vector z 1024#32) (iota_single_apply _ _ _ _ _ _)).trans (rem_apply c)
  have h3 : hot M (ix2 i c) = (((BitVec.setWidth 32 (IntOp.cmpi .eq (BitVec.ofNat 32 (c.val % 1024))
      (BitVec.ofNat 32 k.val))).toInt : ℝ) : EReal) := by
    rw [← h1, ← h2]
    rfl
  have h4 : BitVec.ofNat 32 (c.val % 1024) = BitVec.ofNat 32 k.val ↔ c.val % 1024 = k.val := by
    rw [← BitVec.toNat_inj, BitVec.toNat_ofNat, BitVec.toNat_ofNat]
    omega
  rw [h3]
  by_cases hk : c.val % 1024 = k.val
  · simp [IntOp.cmpi, hk]
  · have h5 : (BitVec.ofNat 32 (c.val % 1024) == BitVec.ofNat 32 k.val) = false := beq_false_of_ne (mt h4.1 hk)
    simp [IntOp.cmpi, hk, h5]

theorem part2_apply (E : Codes) (hE : Finite (book E)) (k : Fin 1024) (j : Fin 256) : part2 E (ix2 k j) = (0 : EReal) :=
  EReal.sub_self (hE k j).1 (hE k j).2

theorem part3_apply (E : Codes) (hE : Finite (book E)) (k : Fin 1024) (j : Fin 256) : part3 E (ix2 k j) = (0 : EReal) := by
  have h : left1 E (ix2 k j) = (0 : EReal) := part2_apply E hE k j
  exact (congrArg₂ (fun a b : EReal => a - b) h h).trans (sub_zero _)

theorem parts_apply (E : Codes) (hE : Finite (book E)) (c : Fin 3072) (j : Fin 256) :
    parts E (ix2 c j) = if h : c.val < 1024 then book E ⟨c.val, h⟩ j else 0 := by
  unfold parts
  by_cases h1 : c.val < 1024
  · rw [dif_pos h1, concatenate_apply_piece 0 _ _ (ix2 c j) 0 (by simp) S1024x256 (part1 E) rfl rfl 0 rfl (ix2 ⟨c.val, h1⟩ j)
      (fun b => by fin_cases b <;> simp) (by simp)]
    rfl
  · rw [dif_neg h1]
    by_cases h2 : c.val < 2048
    · rw [concatenate_apply_piece 0 _ _ (ix2 c j) 1 (by simp) S1024x256 (part2 E) rfl rfl 1024 rfl
        (ix2 ⟨c.val - 1024, by omega⟩ j) (fun b => by fin_cases b <;> simp) (by simp; omega)]
      exact part2_apply E hE _ _
    · rw [concatenate_apply_piece 0 _ _ (ix2 c j) 2 (by simp) S1024x256 (part3 E) rfl rfl 2048 rfl
        (ix2 ⟨c.val - 2048, by omega⟩ j) (fun b => by fin_cases b <;> simp) (by simp; omega)]
      exact part3_apply E hE _ _

theorem looked_apply (E : Codes) (hE : Finite (book E)) (M : IVec S2048x1024 32) (i : Fin 2048) (k : Fin 1024)
    (h : k0_pay14 M (ix1 i) = BitVec.ofNat 32 k.val) (j : Fin 256) : looked E M (ix2 i j) = book E k j := by
  refine ((Ideal.matmul_plain_apply none (hot M) (parts E) _ i j).trans
    ((congrArg (· + _) (Ideal.ofBits_zero FTy.f32)).trans (zero_add _))).trans ?_
  rw [Finset.sum_eq_single (⟨k.val, by omega⟩ : Fin 3072)]
  · refine (congrArg₂ (fun a b : EReal => a * b) (hot_apply M i k h _) (parts_apply E hE _ j)).trans ?_
    simp [Nat.mod_eq_of_lt k.isLt]
  · intro c _ hc
    refine (congrArg₂ (fun a b : EReal => a * b) (hot_apply M i k h _) (parts_apply E hE _ j)).trans ?_
    by_cases h1 : c.val < 1024
    · have : c.val % 1024 ≠ k.val := fun e => hc (Fin.ext (by rw [Nat.mod_eq_of_lt h1] at e; exact e))
      simp [this]
    · simp [h1]
  · exact fun h => absurd (Finset.mem_univ _) h

variable (R T : Block) (E : Codes) (hE : Finite (book E)) (i : Fin 2048)

include hE

theorem diff_apply (j : Fin 256) : k0_pay15 R E (mask R E) (ix2 i j) = diff (row R i) (book E) j :=
  congrArg (fun z : EReal => z - row R i j) (looked_apply E hE (mask R E) i _ (index_apply R E i) j)

/-- What the stage adds to the result, a row of it. -/
theorem row_code : row (k0_pay16 R E (mask R E)) i = code (row R i) (book E) :=
  funext fun j => congrArg (fun z : EReal => row R i j + z) (diff_apply R E hE i j)

/-- What the stage leaves, a row of it. -/
theorem row_rest : row (k0_pay19 R E (mask R E)) i = rest (row R i) (book E) :=
  funext fun j => congrArg (fun z : EReal => row R i j - z) (congrFun (row_code R E hE i) j)

/-- The result after the stage, a row of it. -/
theorem row_total : row (k0_pay18 R T E (mask R E)) i = fun j => row T i j + code (row R i) (book E) j :=
  funext fun j => congrArg (fun z : EReal => row T i j + z) (congrFun (row_code R E hE i) j)

/-- The stage's loss. -/
theorem loss_eq : k0_pay17 R E (mask R E)
    = ∑ i, ∑ j, diff (row R i) (book E) j * diff (row R i) (book E) j := by
  have h : k0_pay17 R E (mask R E) = ∑ i : Fin 2048, ∑ j : Fin 256,
      k0_pay15 R E (mask R E) (ix2 i j) * k0_pay15 R E (mask R E) (ix2 i j) := by
    unfold k0_pay17
    generalize k0_pay15 R E (mask R E) = D
    simp only [pointwise]
  rw [h]
  exact Finset.sum_congr rfl fun i _ => Finset.sum_congr rfl fun j _ =>
    congrArg₂ (fun a b : EReal => a * b) (diff_apply R E hE i j) (diff_apply R E hE i j)

omit hE

/-- The stage's column of indices. -/
theorem column_apply : k0_pay20 (mask R E) (ix2 i 0) = BitVec.ofNat 32 (pick (row R i) (book E)).val := by
  unfold k0_pay20
  exact (shapeCast_apply _ _ (ix2 i 0) (ix1 i) (by rw [Shape.rowMajor_val_two, Shape.rowMajor_val_one]; simp)).trans
    (index_apply R E i)

end Cert.Rvq
-- ==== Proof.Rvq.Chain.lean ====
/- The kernel's eight stages on a block are the one stage, chained: every stage's values are the first stage's functions
   of that stage's residual and codebook. -/
module

public import proofs.«01_k».proof.Proof.Gen.KernelIdeal.Frame
public import proofs.«01_k».proof.Proof.Rvq.Stage

@[expose] public section

noncomputable section

namespace Cert.Rvq

open Idealize.ShloMosaic Cert.KernelIdeal Cert.KernelIdeal.Gen

/-- A block of rows. -/
local notation "Block" => FVec Ideal S2048x256 FTy.f32
/-- A codebook. -/
local notation "Codes" => FVec Ideal S1024x256 FTy.f32
/-- All codebooks. -/
local notation "Books" => FVec Ideal S8x1024x256 FTy.f32

/-- Codebook `q`. -/
def kBook (c : Books) (q : Nat) : Codes := fun y => c (ix3 (Fin.ofNat 8 q) (y 0) (y 1))

/-- The residual stage `n` starts from. -/
def kResid (x : Block) (c : Books) : Nat → Block
  | 0 => x
  | n + 1 => k0_pay19 (kResid x c n) (kBook c n) (mask (kResid x c n) (kBook c n))

/-- The result of the first `n` stages. -/
def kTotal (x : Block) (c : Books) : Nat → Block
  | 0 => k0_pay4
  | n + 1 => k0_pay18 (kResid x c n) (kTotal x c n) (kBook c n) (mask (kResid x c n) (kBook c n))

/-- The column of indices of stage `n`. -/
def kColumn (x : Block) (c : Books) (n : Nat) : IVec S2048x1 32 := k0_pay20 (mask (kResid x c n) (kBook c n))

/-- The loss of stage `n`. -/
def kLoss (x : Block) (c : Books) (n : Nat) : Ideal .f32 :=
  k0_pay17 (kResid x c n) (kBook c n) (mask (kResid x c n) (kBook c n))

/-- The slice of the codebooks a stage reads is its codebook. -/
theorem ld_book (c : Books) (q : Nat) (hq : q < 8) (inb : ∀ a, (![q, 0, 0] : Fin 3 → Nat) a + S1x1024x256.size a ≤ S8x1024x256.size a) :
    shapeCast S1024x256 (View.ld (Val := Elt Ideal) (e' := .f32) c (Rect.unit (s := S8x1024x256) ![q, 0, 0] S1x1024x256.size inb))
      shapeCasts_S1x1024x256_S1024x256 = kBook c q := by
  rw [View.ld_unit]
  funext y
  obtain ⟨k, j, rfl⟩ : ∃ k j, y = ix2 k j := ⟨y 0, y 1, eq_ix2 y⟩
  rw [shapeCast_apply _ _ (ix2 k j) (ix3 0 k j) (by
    rw [Shape.rowMajor_val_three, Shape.rowMajor_val_two]; simp)]
  refine extractStridedSlice_apply _ _ _ _ _ fun a => ?_
  fin_cases a <;> simp [Nat.mod_eq_of_lt hq]

/-- What one stage of the chain leaves. -/
structure StageIs (x : Block) (c : Books) (n : Nat) (Rn : Block) (P : Block → Block) (col : IVec S2048x1 32) (loss : Ideal .f32) :
    Prop where
  /-- the residual -/
  rest : Rn = kResid x c (n + 1)
  /-- the result -/
  total : P (kTotal x c n) = kTotal x c (n + 1)
  /-- the column of indices -/
  column : col = kColumn x c n
  /-- the loss -/
  loss : loss = kLoss x c n

/-- A stage whose values are the first stage's functions of its residual and codebook. -/
theorem stage_of {x : Block} {c : Books} {n : Nat} {R Rn : Block} {P : Block → Block} {E : Codes} {col : IVec S2048x1 32}
    {loss : Ideal .f32} (hR : R = kResid x c n) (hE : E = kBook c n) (hn : Rn = k0_pay19 R E (mask R E))
    (hp : ∀ T, P T = k0_pay18 R T E (mask R E)) (hc : col = k0_pay20 (mask R E)) (hl : loss = k0_pay17 R E (mask R E)) :
    StageIs x c n Rn P col loss := by
  subst hR hE
  exact ⟨hn, hp _, hc, hl⟩

/-- Stage 1's values, from a residual and the slice it reads. -/
theorem values1 (R T : Block) (X : FVec Ideal S1x1024x256 .f32) :
    let C := k0_pay25 (k0_pay22 X) (k0_pay23 X) (k0_pay24 X)
    let n := k0_pay29 (k0_pay26 R) (k0_pay27 R) (k0_pay28 R)
    let u := k0_pay30 (k0_pay26 R)
    let M := mask R (k0_pay21 X)
    k0_pay36 R (k0_pay33 R (k0_pay21 X) C n u) = k0_pay19 R (k0_pay21 X) M ∧ k0_pay35 T R (k0_pay21 X) C n u = k0_pay18 R T (k0_pay21 X) M
      ∧ k0_pay37 (k0_pay31 R (k0_pay21 X) C n u) = k0_pay20 M ∧ k0_pay34 R (k0_pay21 X) C n u = k0_pay17 R (k0_pay21 X) M := ⟨rfl, rfl, rfl, rfl⟩

/-- Stage 3's values, from a residual and the slice it reads. -/
theorem values3 (R T : Block) (X : FVec Ideal S1x1024x256 .f32) :
    let C := k0_pay58 (k0_pay55 X) (k0_pay56 X) (k0_pay57 X)
    let n := k0_pay62 (k0_pay59 R) (k0_pay60 R) (k0_pay61 R)
    let u := k0_pay63 (k0_pay59 R)
    let M := mask R (k0_pay54 X)
    k0_pay69 R (k0_pay66 R (k0_pay54 X) C n u) = k0_pay19 R (k0_pay54 X) M ∧ k0_pay68 T R (k0_pay54 X) C n u = k0_pay18 R T (k0_pay54 X) M
      ∧ k0_pay70 (k0_pay64 R (k0_pay54 X) C n u) = k0_pay20 M ∧ k0_pay67 R (k0_pay54 X) C n u = k0_pay17 R (k0_pay54 X) M := ⟨rfl, rfl, rfl, rfl⟩

/-- Stage 5's values, from a residual and the slice it reads. -/
theorem values5 (R T : Block) (X : FVec Ideal S1x1024x256 .f32) :
    let C := k0_pay91 (k0_pay88 X) (k0_pay89 X) (k0_pay90 X)
    let n := k0_pay95 (k0_pay92 R) (k0_pay93 R) (k0_pay94 R)
    let u := k0_pay96 (k0_pay92 R)
    let M := mask R (k0_pay87 X)
    k0_pay102 R (k0_pay99 R (k0_pay87 X) C n u) = k0_pay19 R (k0_pay87 X) M ∧ k0_pay101 T R (k0_pay87 X) C n u = k0_pay18 R T (k0_pay87 X) M
      ∧ k0_pay103 (k0_pay97 R (k0_pay87 X) C n u) = k0_pay20 M ∧ k0_pay100 R (k0_pay87 X) C n u = k0_pay17 R (k0_pay87 X) M := ⟨rfl, rfl, rfl, rfl⟩

/-- Stage 7's values, from a residual and the slice it reads. -/
theorem values7 (R T : Block) (X : FVec Ideal S1x1024x256 .f32) :
    let C := k0_pay124 (k0_pay121 X) (k0_pay122 X) (k0_pay123 X)
    let n := k0_pay128 (k0_pay125 R) (k0_pay126 R) (k0_pay127 R)
    let u := k0_pay129 (k0_pay125 R)
    let M := mask R (k0_pay120 X)
    k0_pay133 T R (k0_pay120 X) C n u = k0_pay18 R T (k0_pay120 X) M
      ∧ k0_pay1 (k0_pay130 R (k0_pay120 X) C n u) = k0_pay20 M ∧ k0_pay132 R (k0_pay120 X) C n u = k0_pay17 R (k0_pay120 X) M := ⟨rfl, rfl, rfl⟩

/-- Stage 2's values, from a residual and the slice it reads. -/
theorem values2 (R T : Block) (X : FVec Ideal S1x1024x256 .f32) (M : IVec S2048x1024 32) :
    k0_pay46 R (k0_pay38 X) (k0_pay42 (k0_pay39 X) (k0_pay40 X) (k0_pay41 X)) (k0_pay43 R) (k0_pay44 R) (k0_pay45 R)
        = mask R (k0_pay38 X)
      ∧ k0_pay52 R (k0_pay38 X) M = k0_pay19 R (k0_pay38 X) M ∧ k0_pay51 T R (k0_pay38 X) M = k0_pay18 R T (k0_pay38 X) M
      ∧ k0_pay53 M = k0_pay20 M ∧ k0_pay50 R (k0_pay38 X) M = k0_pay17 R (k0_pay38 X) M := ⟨rfl, rfl, rfl, rfl, rfl⟩

/-- Stage 4's values, from a residual and the slice it reads. -/
theorem values4 (R T : Block) (X : FVec Ideal S1x1024x256 .f32) (M : IVec S2048x1024 32) :
    k0_pay79 R (k0_pay71 X) (k0_pay75 (k0_pay72 X) (k0_pay73 X) (k0_pay74 X)) (k0_pay76 R) (k0_pay77 R) (k0_pay78 R)
        = mask R (k0_pay71 X)
      ∧ k0_pay85 R (k0_pay71 X) M = k0_pay19 R (k0_pay71 X) M ∧ k0_pay84 T R (k0_pay71 X) M = k0_pay18 R T (k0_pay71 X) M
      ∧ k0_pay86 M = k0_pay20 M ∧ k0_pay83 R (k0_pay71 X) M = k0_pay17 R (k0_pay71 X) M := ⟨rfl, rfl, rfl, rfl, rfl⟩

/-- Stage 6's values, from a residual and the slice it reads. -/
theorem values6 (R T : Block) (X : FVec Ideal S1x1024x256 .f32) (M : IVec S2048x1024 32) :
    k0_pay112 R (k0_pay104 X) (k0_pay108 (k0_pay105 X) (k0_pay106 X) (k0_pay107 X)) (k0_pay109 R) (k0_pay110 R) (k0_pay111 R)
        = mask R (k0_pay104 X)
      ∧ k0_pay118 R (k0_pay104 X) M = k0_pay19 R (k0_pay104 X) M ∧ k0_pay117 T R (k0_pay104 X) M = k0_pay18 R T (k0_pay104 X) M
      ∧ k0_pay119 M = k0_pay20 M ∧ k0_pay116 R (k0_pay104 X) M = k0_pay17 R (k0_pay104 X) M := ⟨rfl, rfl, rfl, rfl, rfl⟩

variable (x : Block) (c : Books)

/-- The first stage's values are the chain's. -/
theorem stage0 : StageIs x c 0 (k0_pay137 (F := Ideal) x c) (fun T => k0_pay18 (k0_pay134 (F := Ideal) x c) T (k0_pay135 (F := Ideal) x c) (k0_pay136 (F := Ideal) x c))
    (k0_pay20 (k0_pay136 (F := Ideal) x c)) (k0_pay17 (k0_pay134 (F := Ideal) x c) (k0_pay135 (F := Ideal) x c) (k0_pay136 (F := Ideal) x c)) :=
  have hR : k0_pay134 (F := Ideal) x c = x := by
    unfold k0_pay134 k0_pay3
    rw [shapeCast_self]
    exact View.ld_unit_zero (by decide) _ _
  have hM : k0_pay136 (F := Ideal) x c = mask (k0_pay134 (F := Ideal) x c) (k0_pay135 (F := Ideal) x c) := rfl
  stage_of hR (ld_book c 0 (by decide) _) (congrArg (k0_pay19 _ _) hM) (fun _ => congrArg (k0_pay18 _ _ _) hM)
    (congrArg k0_pay20 hM) (congrArg (k0_pay17 _ _) hM)

/-- Stage 1's values are the chain's, from stage 0's residual. -/
theorem stage1 : StageIs x c 1 (k0_pay143 (F := Ideal) x c)
    (fun T => k0_pay35 T (k0_pay137 (F := Ideal) x c) (k0_pay138 (F := Ideal) x c) (k0_pay139 (F := Ideal) x c) (k0_pay141 (F := Ideal) x c) (k0_pay142 (F := Ideal) x c))
    (k0_pay37 (k0_pay31 (k0_pay137 (F := Ideal) x c) (k0_pay138 (F := Ideal) x c) (k0_pay139 (F := Ideal) x c) (k0_pay141 (F := Ideal) x c) (k0_pay142 (F := Ideal) x c)))
    (k0_pay34 (k0_pay137 (F := Ideal) x c) (k0_pay138 (F := Ideal) x c) (k0_pay139 (F := Ideal) x c) (k0_pay141 (F := Ideal) x c) (k0_pay142 (F := Ideal) x c)) :=
  have h T := values1 (k0_pay137 (F := Ideal) x c) T (View.ld (Val := Elt Ideal) (e' := .f32) c r0_3)
  have hE : k0_pay138 (F := Ideal) x c = kBook c 1 := ld_book c 1 (by decide) _
  stage_of (R := k0_pay137 (F := Ideal) x c) (E := k0_pay138 (F := Ideal) x c) (stage0 x c).rest hE (h x).1
    (fun T => (h T).2.1) (h x).2.2.1 (h x).2.2.2

/-- Stage 2's values are the chain's, from stage 1's residual. -/
theorem stage2 : StageIs x c 2 (k0_pay146 (F := Ideal) x c) (fun T => k0_pay51 T (k0_pay143 (F := Ideal) x c) (k0_pay144 (F := Ideal) x c) (k0_pay145 (F := Ideal) x c))
    (k0_pay53 (k0_pay145 (F := Ideal) x c)) (k0_pay50 (k0_pay143 (F := Ideal) x c) (k0_pay144 (F := Ideal) x c) (k0_pay145 (F := Ideal) x c)) :=
  have h T := values2 (k0_pay143 (F := Ideal) x c) T (View.ld (Val := Elt Ideal) (e' := .f32) c r0_5) (k0_pay145 (F := Ideal) x c)
  have hE : k0_pay144 (F := Ideal) x c = kBook c 2 := ld_book c 2 (by decide) _
  have hM : k0_pay145 (F := Ideal) x c = mask (k0_pay143 (F := Ideal) x c) (k0_pay144 (F := Ideal) x c) := (h x).1
  hM ▸ stage_of (R := k0_pay143 (F := Ideal) x c) (E := k0_pay144 (F := Ideal) x c) (stage1 x c).rest hE (hM ▸ (h x).2.1)
    (fun T => hM ▸ (h T).2.2.1) (hM ▸ (h x).2.2.2.1) (hM ▸ (h x).2.2.2.2)

/-- Stage 3's values are the chain's, from stage 2's residual. -/
theorem stage3 : StageIs x c 3 (k0_pay152 (F := Ideal) x c)
    (fun T => k0_pay68 T (k0_pay146 (F := Ideal) x c) (k0_pay147 (F := Ideal) x c) (k0_pay148 (F := Ideal) x c) (k0_pay150 (F := Ideal) x c) (k0_pay151 (F := Ideal) x c))
    (k0_pay70 (k0_pay64 (k0_pay146 (F := Ideal) x c) (k0_pay147 (F := Ideal) x c) (k0_pay148 (F := Ideal) x c) (k0_pay150 (F := Ideal) x c) (k0_pay151 (F := Ideal) x c)))
    (k0_pay67 (k0_pay146 (F := Ideal) x c) (k0_pay147 (F := Ideal) x c) (k0_pay148 (F := Ideal) x c) (k0_pay150 (F := Ideal) x c) (k0_pay151 (F := Ideal) x c)) :=
  have h T := values3 (k0_pay146 (F := Ideal) x c) T (View.ld (Val := Elt Ideal) (e' := .f32) c r0_7)
  have hE : k0_pay147 (F := Ideal) x c = kBook c 3 := ld_book c 3 (by decide) _
  stage_of (R := k0_pay146 (F := Ideal) x c) (E := k0_pay147 (F := Ideal) x c) (stage2 x c).rest hE (h x).1
    (fun T => (h T).2.1) (h x).2.2.1 (h x).2.2.2

/-- Stage 4's values are the chain's, from stage 3's residual. -/
theorem stage4 : StageIs x c 4 (k0_pay155 (F := Ideal) x c) (fun T => k0_pay84 T (k0_pay152 (F := Ideal) x c) (k0_pay153 (F := Ideal) x c) (k0_pay154 (F := Ideal) x c))
    (k0_pay86 (k0_pay154 (F := Ideal) x c)) (k0_pay83 (k0_pay152 (F := Ideal) x c) (k0_pay153 (F := Ideal) x c) (k0_pay154 (F := Ideal) x c)) :=
  have h T := values4 (k0_pay152 (F := Ideal) x c) T (View.ld (Val := Elt Ideal) (e' := .f32) c r0_9) (k0_pay154 (F := Ideal) x c)
  have hE : k0_pay153 (F := Ideal) x c = kBook c 4 := ld_book c 4 (by decide) _
  have hM : k0_pay154 (F := Ideal) x c = mask (k0_pay152 (F := Ideal) x c) (k0_pay153 (F := Ideal) x c) := (h x).1
  hM ▸ stage_of (R := k0_pay152 (F := Ideal) x c) (E := k0_pay153 (F := Ideal) x c) (stage3 x c).rest hE (hM ▸ (h x).2.1)
    (fun T => hM ▸ (h T).2.2.1) (hM ▸ (h x).2.2.2.1) (hM ▸ (h x).2.2.2.2)

/-- Stage 5's values are the chain's, from stage 4's residual. -/
theorem stage5 : StageIs x c 5 (k0_pay161 (F := Ideal) x c)
    (fun T => k0_pay101 T (k0_pay155 (F := Ideal) x c) (k0_pay156 (F := Ideal) x c) (k0_pay157 (F := Ideal) x c) (k0_pay159 (F := Ideal) x c) (k0_pay160 (F := Ideal) x c))
    (k0_pay103 (k0_pay97 (k0_pay155 (F := Ideal) x c) (k0_pay156 (F := Ideal) x c) (k0_pay157 (F := Ideal) x c) (k0_pay159 (F := Ideal) x c) (k0_pay160 (F := Ideal) x c)))
    (k0_pay100 (k0_pay155 (F := Ideal) x c) (k0_pay156 (F := Ideal) x c) (k0_pay157 (F := Ideal) x c) (k0_pay159 (F := Ideal) x c) (k0_pay160 (F := Ideal) x c)) :=
  have h T := values5 (k0_pay155 (F := Ideal) x c) T (View.ld (Val := Elt Ideal) (e' := .f32) c r0_11)
  have hE : k0_pay156 (F := Ideal) x c = kBook c 5 := ld_book c 5 (by decide) _
  stage_of (R := k0_pay155 (F := Ideal) x c) (E := k0_pay156 (F := Ideal) x c) (stage4 x c).rest hE (h x).1
    (fun T => (h T).2.1) (h x).2.2.1 (h x).2.2.2

/-- Stage 6's values are the chain's, from stage 5's residual. -/
theorem stage6 : StageIs x c 6 (k0_pay164 (F := Ideal) x c) (fun T => k0_pay117 T (k0_pay161 (F := Ideal) x c) (k0_pay162 (F := Ideal) x c) (k0_pay163 (F := Ideal) x c))
    (k0_pay119 (k0_pay163 (F := Ideal) x c)) (k0_pay116 (k0_pay161 (F := Ideal) x c) (k0_pay162 (F := Ideal) x c) (k0_pay163 (F := Ideal) x c)) :=
  have h T := values6 (k0_pay161 (F := Ideal) x c) T (View.ld (Val := Elt Ideal) (e' := .f32) c r0_13) (k0_pay163 (F := Ideal) x c)
  have hE : k0_pay162 (F := Ideal) x c = kBook c 6 := ld_book c 6 (by decide) _
  have hM : k0_pay163 (F := Ideal) x c = mask (k0_pay161 (F := Ideal) x c) (k0_pay162 (F := Ideal) x c) := (h x).1
  hM ▸ stage_of (R := k0_pay161 (F := Ideal) x c) (E := k0_pay162 (F := Ideal) x c) (stage5 x c).rest hE (hM ▸ (h x).2.1)
    (fun T => hM ▸ (h T).2.2.1) (hM ▸ (h x).2.2.2.1) (hM ▸ (h x).2.2.2.2)

/-- Stage 7's values are the chain's, from stage 6's residual. -/
theorem stage7 : StageIs x c 7 (kResid x c 8)
    (fun T => k0_pay133 T (k0_pay164 (F := Ideal) x c) (k0_pay165 (F := Ideal) x c) (k0_pay166 (F := Ideal) x c) (k0_pay168 (F := Ideal) x c) (k0_pay169 (F := Ideal) x c))
    (k0_pay1 (k0_pay130 (k0_pay164 (F := Ideal) x c) (k0_pay165 (F := Ideal) x c) (k0_pay166 (F := Ideal) x c) (k0_pay168 (F := Ideal) x c) (k0_pay169 (F := Ideal) x c)))
    (k0_pay132 (k0_pay164 (F := Ideal) x c) (k0_pay165 (F := Ideal) x c) (k0_pay166 (F := Ideal) x c) (k0_pay168 (F := Ideal) x c) (k0_pay169 (F := Ideal) x c)) :=
  have h T := values7 (k0_pay164 (F := Ideal) x c) T (View.ld (Val := Elt Ideal) (e' := .f32) c r0_15)
  have hE : k0_pay165 (F := Ideal) x c = kBook c 7 := ld_book c 7 (by decide) _
  stage_of (R := k0_pay164 (F := Ideal) x c) (E := k0_pay165 (F := Ideal) x c) (stage6 x c).rest hE
    (by rw [(stage6 x c).rest, hE]; rfl) (fun T => (h T).1) (h x).2.1 (h x).2.2

/-- The block of the result. -/
theorem out2_eq : out0_2 (F := Ideal) x c = kTotal x c 8 := by
  rw [← (stage7 x c).total, ← (stage6 x c).total, ← (stage5 x c).total, ← (stage4 x c).total, ← (stage3 x c).total,
    ← (stage2 x c).total, ← (stage1 x c).total, ← (stage0 x c).total]
  exact View.canon_unit_zero (by decide) _ _

/-- The columns of the block of indices. -/
theorem out3_eq : out0_3 (F := Ideal) x c = View.canon [⟨r0_16, kColumn x c 7⟩, ⟨r0_14, kColumn x c 6⟩, ⟨r0_12, kColumn x c 5⟩,
    ⟨r0_10, kColumn x c 4⟩, ⟨r0_8, kColumn x c 3⟩, ⟨r0_6, kColumn x c 2⟩, ⟨r0_4, kColumn x c 1⟩,
    ⟨r0_2, kColumn x c 0⟩] := by
  rw [← (stage7 x c).column, ← (stage6 x c).column, ← (stage5 x c).column, ← (stage4 x c).column, ← (stage3 x c).column,
    ← (stage2 x c).column, ← (stage1 x c).column, ← (stage0 x c).column]
  rfl

/-- The block's losses. -/
theorem out4_eq : out0_4 (F := Ideal) x c = k0_pay2 (kLoss x c 0) (kLoss x c 1) (kLoss x c 2) (kLoss x c 3) (kLoss x c 4) (kLoss x c 5)
    (kLoss x c 6) (kLoss x c 7) := by
  rw [← (stage7 x c).loss, ← (stage6 x c).loss, ← (stage5 x c).loss, ← (stage4 x c).loss, ← (stage3 x c).loss,
    ← (stage2 x c).loss, ← (stage1 x c).loss, ← (stage0 x c).loss]
  exact View.canon_unit_zero (by decide) _ _

end Cert.Rvq
-- ==== Proof.Rvq.Rows.lean ====
/- What the kernel's body leaves for a block, row by row: the eight stages of the specification. -/
module

public import proofs.«01_k».proof.Proof.Rvq.Chain

@[expose] public section

noncomputable section

namespace Cert.Rvq

open Idealize.ShloMosaic Cert.KernelIdeal Cert.KernelIdeal.Gen

/-- A block of rows. -/
local notation "Block" => FVec Ideal S2048x256 FTy.f32
/-- All codebooks. -/
local notation "Books" => FVec Ideal S8x1024x256 FTy.f32

/-- The codebooks the kernel's stages read. -/
def kBooks (c : Books) (q : Nat) : Book := fun k j => c (ix3 (Fin.ofNat 8 q) k j)

variable (x : Block) (c : Books) (hc : ∀ q, Finite (kBooks c q))

/-- A stage's codebook, by its codes. -/
theorem book_kBook (q : Nat) : book (kBook c q) = kBooks c q := rfl

include hc

theorem finite_kBook (q : Nat) : Finite (book (kBook c q)) := by rw [book_kBook]; exact hc q

/-- A row of the residual a stage starts from. -/
theorem row_kResid (i : Fin 2048) : ∀ n, row (kResid x c n) i = resid (row x i) (kBooks c) n
  | 0 => rfl
  | n + 1 => by
    have h := row_rest (kResid x c n) (kBook c n) (finite_kBook c hc n) i
    rw [row_kResid i n, book_kBook] at h
    exact h

/-- A row of the result after `n` stages. -/
theorem row_kTotal (i : Fin 2048) : ∀ n, row (kTotal x c n) i = total (row x i) (kBooks c) n
  | 0 => by
    funext j
    exact Ideal.ofBits_zero .f32
  | n + 1 => by
    have h := row_total (kResid x c n) (kTotal x c n) (kBook c n) (finite_kBook c hc n) i
    rw [row_kResid x c hc i n, row_kTotal i n, book_kBook] at h
    exact h

/-- An index a stage writes. -/
theorem kColumn_apply (n : Nat) (i : Fin 2048) :
    kColumn x c n (ix2 i 0) = BitVec.ofNat 32 (index (row x i) (kBooks c) n).val := by
  have h := column_apply (kResid x c n) (kBook c n) i
  rw [row_kResid x c hc i n, book_kBook] at h
  exact h

/-- A stage's loss: the sum of its squared differences. -/
theorem kLoss_eq (n : Nat) : kLoss x c n = (∑ i, ∑ j, err (row x i) (kBooks c) n j : EReal) := by
  refine (loss_eq (kResid x c n) (kBook c n) (finite_kBook c hc n)).trans ?_
  refine Finset.sum_congr rfl fun i _ => Finset.sum_congr rfl fun j _ => ?_
  rw [row_kResid x c hc i n, book_kBook]
  rfl

/-- The block of results. -/
theorem out2_apply (i : Fin 2048) (j : Fin 256) :
    out0_2 (F := Ideal) x c (ix2 i j) = total (row x i) (kBooks c) 8 j := by
  rw [out2_eq]
  exact congrFun (row_kTotal x c hc i 8) j

omit hc in
/-- The column of a stage's indices, in the block of indices. -/
theorem column_emb (q : Nat) (hq : q < 8) (inb : ∀ a, (![0, q] : Fin 2 → Nat) a + S2048x1.size a ≤ S2048x8.size a)
    (z : S2048x1.Idx) : (Rect.unit (s := S2048x8) ![0, q] S2048x1.size inb).emb z = ix2 (z 0) ⟨q, hq⟩ := by
  have h1 : (z 1).val = 0 := Nat.lt_one_iff.1 (z 1).isLt
  funext a
  apply Fin.ext
  fin_cases a
  · simp [Rect.emb, Rect.unit]
  · simp [Rect.emb, Rect.unit, h1]

omit hc in
/-- Eight columns side by side, whatever they hold. -/
theorem columns_apply (f : Nat → IVec S2048x1 32) (y : S2048x8.Idx) :
    View.canon (Val := Elt Ideal) (e := .i32) [⟨r0_16, f 7⟩, ⟨r0_14, f 6⟩, ⟨r0_12, f 5⟩, ⟨r0_10, f 4⟩, ⟨r0_8, f 3⟩, ⟨r0_6, f 2⟩,
      ⟨r0_4, f 1⟩, ⟨r0_2, f 0⟩] y = f (y 1).val (ix2 (y 0) 0) := by
  have hz : ∀ w : S2048x1.Idx, w = ix2 (w 0) 0 := fun w => by
    funext a
    fin_cases a
    · rfl
    · exact Fin.ext (Nat.lt_one_iff.1 (w 1).isLt)
  have key : ∀ (q : Nat) (hq : q < 8) (inb) (z : S2048x1.Idx), f q z
      = f (((Rect.unit (s := S2048x8) ![0, q] S2048x1.size inb).emb z) 1).val
        (ix2 (((Rect.unit (s := S2048x8) ![0, q] S2048x1.size inb).emb z) 0) 0) := fun q hq inb z => by
    rw [column_emb q hq inb z]
    exact congrArg (f q) (hz z)
  refine View.canon_apply_of_pieces (Val := Elt Ideal) (fun y => f (y 1).val (ix2 (y 0) 0)) _ ?_ y
    (cover0_3 (F := Ideal) _ _ _ _ _ _ _ _ y)
  refine List.forall_mem_cons.2 ⟨fun z => key 7 (by decide) (by decide) z, ?_⟩
  refine List.forall_mem_cons.2 ⟨fun z => key 6 (by decide) (by decide) z, ?_⟩
  refine List.forall_mem_cons.2 ⟨fun z => key 5 (by decide) (by decide) z, ?_⟩
  refine List.forall_mem_cons.2 ⟨fun z => key 4 (by decide) (by decide) z, ?_⟩
  refine List.forall_mem_cons.2 ⟨fun z => key 3 (by decide) (by decide) z, ?_⟩
  refine List.forall_mem_cons.2 ⟨fun z => key 2 (by decide) (by decide) z, ?_⟩
  refine List.forall_mem_cons.2 ⟨fun z => key 1 (by decide) (by decide) z, ?_⟩
  exact List.forall_mem_cons.2 ⟨fun z => key 0 (by decide) (by decide) z, fun _ h => absurd h (List.not_mem_nil)⟩

omit hc in
/-- The block of indices, by its columns. -/
theorem out3_columns (y : S2048x8.Idx) : out0_3 (F := Ideal) x c y = kColumn x c (y 1).val (ix2 (y 0) 0) := by
  rw [out3_eq]
  exact columns_apply (kColumn x c) y

/-- The block of indices. -/
theorem out3_apply (i : Fin 2048) (q : Fin 8) :
    out0_3 (F := Ideal) x c (ix2 i q) = BitVec.ofNat 32 (index (row x i) (kBooks c) q.val).val := by
  rw [out3_columns]
  exact kColumn_apply x c hc q.val i

omit hc in
/-- The eight losses side by side. -/
theorem losses_apply (f : Fin 8 → Ideal .f32) (q : Fin 8) :
    k0_pay2 (f 0) (f 1) (f 2) (f 3) (f 4) (f 5) (f 6) (f 7) (ix3 0 0 q) = f q := by
  unfold k0_pay2
  rw [shapeCast_apply _ _ (ix3 0 0 q) (ix1 q) (by rw [Shape.rowMajor_val_three, Shape.rowMajor_val_one]; simp)]
  exact concatenate_apply_piece 0 _ _ (ix1 q) q.val (by simp) S1 (broadcast S1 (f q)) (by fin_cases q <;> rfl) rfl q.val
    (by fin_cases q <;> rfl) (ix1 0) (fun a ha => by fin_cases a; exact absurd rfl ha) (by simp)

/-- The block's losses. -/
theorem out4_apply (q : Fin 8) : out0_4 (F := Ideal) x c (ix3 0 0 q) = (∑ i, ∑ j, err (row x i) (kBooks c) q.val j : EReal) := by
  rw [out4_eq, ← kLoss_eq x c hc]
  exact losses_apply (fun q => kLoss x c q.val) q

end Cert.Rvq
-- ==== Proof.Rvq.Tail.lean ====
/- The kernel's lines after the grid, and before it: what the result buffers hold of the grid's arrays. -/
module

public import proofs.«01_k».proof.Proof.Gen.KernelIdeal.Frame
public import Idealize.ShloMosaic.Lib.Claim
public import Idealize.ShloMosaic.Lib.Pointwise
public import Idealize.ShloMosaic.Lib.Pipeline.ValueKit.Geometry

@[expose] public section

noncomputable section

namespace Cert.Rvq

open Idealize.ShloMosaic Cert.KernelIdeal Cert.KernelIdeal.Gen

/-- The losses of the blocks, added and divided. -/
def kLosses (L : FVec Ideal S4x1x8 .f32) : FVec Ideal S8 .f32 :=
  Host.divf (shapeCast S8 (Host.reduceAdd L (constant S_ .f32 0x00000000#32) reducesTo_S4x1x8_S1x8_d0 h_S_) shapeCasts_S1x8_S8)
    (broadcastInDim S8 ![] bcast_S_S8 (constant S_ .f32 0x4A000000#32))

/-- The first result is the grid's first array, reshaped. -/
theorem tail_v2 (σ : Valuation τ sig (Elt Ideal)) : StableHlo.after (hostOps1 (F := Ideal)) σ (Proc.devRef .tc main_v2)
    = shapeCast S8x1024x256 (σ (Proc.devRef .tc main_v1_0)) shapeCasts_S8192x256_S8x1024x256 := by
  after_results
  rfl

/-- The second result is the grid's second array, reshaped. -/
theorem tail_v3 (σ : Valuation τ sig (Elt Ideal)) : StableHlo.after (hostOps1 (F := Ideal)) σ (Proc.devRef .tc main_v3)
    = shapeCast S8x1024x8 (σ (Proc.devRef .tc main_v1_1)) shapeCasts_S8192x8_S8x1024x8 := by
  after_results
  rfl

/-- The third result is the grid's third array, added over the blocks and divided. -/
theorem tail_v7 (σ : Valuation τ sig (Elt Ideal)) : StableHlo.after (hostOps1 (F := Ideal)) σ (Proc.devRef .tc main_v7)
    = kLosses (σ (Proc.devRef .tc main_v1_2)) := by
  after_results
  rfl

variable (m : (ℓ : Loc nD τ sig) → Buf (Elt Ideal) ℓ) (c : Dev nD)

/-- The grid reads the first argument as rows. -/
theorem entry_v0 : V m c main_v0 = shapeCast S8192x256 (m ((c.tc : Thread nD τ).loc main_arg0)) shapeCasts_S8x1024x256_S8192x256 := by
  show StableHlo.after (hostOps0 (F := Ideal)) (fun b => m (c, b)) (Proc.devRef .tc main_v0) = _
  after_results
  rfl

/-- The grid's arrays are distinct buffers. -/
theorem arrays_inj : Function.Injective (Pipeline.arrRef spec0) := by decide

/-- The first result after the run. -/
theorem final_v2 : Pipeline.afterTail₀ cfgs (dats m) 0 (V0 m) [hostOps1] c main_v2
    = shapeCast S8x1024x256 ((dats m 0 c).arrAt 2 cfg0.N) shapeCasts_S8192x256_S8x1024x256 := by
  unfold Pipeline.afterTail₀
  refine (tail_v2 _).trans (congrArg (fun z => shapeCast S8x1024x256 z shapeCasts_S8192x256_S8x1024x256) ?_)
  exact Pipeline.withArrays_arr spec0 arrays_inj c _ _ 2

/-- The second result after the run. -/
theorem final_v3 : Pipeline.afterTail₀ cfgs (dats m) 0 (V0 m) [hostOps1] c main_v3
    = shapeCast S8x1024x8 ((dats m 0 c).arrAt 3 cfg0.N) shapeCasts_S8192x8_S8x1024x8 := by
  unfold Pipeline.afterTail₀
  refine (tail_v3 _).trans (congrArg (fun z => shapeCast S8x1024x8 z shapeCasts_S8192x8_S8x1024x8) ?_)
  exact Pipeline.withArrays_arr spec0 arrays_inj c _ _ 3

/-- The third result after the run. -/
theorem final_v7 : Pipeline.afterTail₀ cfgs (dats m) 0 (V0 m) [hostOps1] c main_v7 = kLosses ((dats m 0 c).arrAt 4 cfg0.N) := by
  unfold Pipeline.afterTail₀
  refine (tail_v7 _).trans (congrArg kLosses ?_)
  exact Pipeline.withArrays_arr spec0 arrays_inj c _ _ 4

end Cert.Rvq
-- ==== Proof.Rvq.Arrays.lean ====
/- The arrays the kernel's grid leaves, row by row. -/
module

public import proofs.«01_k».proof.Proof.Rvq.Rows
public import proofs.«01_k».proof.Proof.Rvq.Tail

@[expose] public section

noncomputable section

namespace Cert.Rvq

open Idealize.ShloMosaic Cert.KernelIdeal Cert.KernelIdeal.Gen

/-- Row `i` of all rows. -/
def rowOf (X : FVec Ideal S8192x256 .f32) (i : Fin 8192) : Row := fun j => X (ix2 i j)

/-- Row `i` of block `t` among all rows. -/
def place (t : Fin 4) (i : Fin 2048) : Fin 8192 := ⟨t.val * 2048 + i.val, by omega⟩

/-- The result of every row. -/
def gTotal (X : FVec Ideal S8192x256 .f32) (c : FVec Ideal S8x1024x256 .f32) : FVec Ideal S8192x256 .f32 :=
  fun y => total (rowOf X (y 0)) (kBooks c) 8 (y 1)
/-- The indices of every row. -/
def gIndex (X : FVec Ideal S8192x256 .f32) (c : FVec Ideal S8x1024x256 .f32) : IVec S8192x8 32 :=
  fun y => BitVec.ofNat 32 (index (rowOf X (y 0)) (kBooks c) (y 1).val).val
/-- The losses of every block. -/
def gLoss (X : FVec Ideal S8192x256 .f32) (c : FVec Ideal S8x1024x256 .f32) : FVec Ideal S4x1x8 .f32 :=
  fun y => (∑ i, ∑ j, err (rowOf X (place (y 0) i)) (kBooks c) (y 2).val j : EReal)

variable (m : (ℓ : Loc nD τ sig) → Buf (Elt Ideal) ℓ) (c : Dev nD)

/-! The block of each window at a grid point. -/

theorem index_0 : ∀ t : Fin cfg0.N, win0_0.index t = ![t.val, 0] := (by decide +kernel : ∀ t : Fin grid0.N, _)
theorem index_1 : ∀ t : Fin cfg0.N, win0_1.index t = ![0, 0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0, 0] := (by decide +kernel : ∀ t : Fin grid0.N, _)

/-- A block's rows are the array's. -/
theorem row_iblk (t : Fin cfg0.N) (i : Fin 2048) : row (iblk m c 0 t) i = rowOf (V m c main_v0) (place t i) := by
  funext j
  show iblk m c 0 t (ix2 i j) = V m c main_v0 (ix2 (place t i) j)
  blk_simp [iblk]
  refine congrArg (V m c main_v0) ?_
  blk_ext [index_0 t, place]

/-- Every block of the codebooks is all of them. -/
theorem iblk_codes (t : Fin cfg0.N) : iblk m c 1 t = V m c main_arg1 := by
  funext j
  blk_simp [iblk]
  refine congrArg (V m c main_arg1) ?_
  blk_ext [index_1 t]

variable (hc : ∀ q, Finite (kBooks (V m c main_arg1) q))

include hc

/-- The grid's first array. -/
theorem array_2 : (dats m 0 c).arrAt 2 cfg0.N = gTotal (V m c main_v0) (V m c main_arg1) := by
  refine (dats m 0 c).arrAt_eq_of_covers 2 _ (by decide +kernel) fun t hf y => ?_
  blk_simp
  rw [after0_2, iblk_codes]
  have hy : y = ix2 (y 0) (y 1) := eq_ix2 y
  have he : ((win0_2.blk t).view.emb y) = ix2 (place t (y 0)) (y 1) := by blk_ext [index_2 t, place]
  rw [he, hy]
  have key (i : Fin 2048) (j : Fin 256) : out0_2 (F := Ideal) (iblk m c 0 t) (V m c main_arg1) (ix2 i j)
      = gTotal (V m c main_v0) (V m c main_arg1) (ix2 (place t i) j) :=
    (out2_apply _ _ hc i j).trans (congrArg (fun r => total r (kBooks (V m c main_arg1)) 8 j) (row_iblk m c t i))
  exact key (y 0) (y 1)

/-- The grid's second array. -/
theorem array_3 : (dats m 0 c).arrAt 3 cfg0.N = gIndex (V m c main_v0) (V m c main_arg1) := by
  refine (dats m 0 c).arrAt_eq_of_covers 3 _ (by decide +kernel) fun t hf y => ?_
  blk_simp
  rw [after0_3, iblk_codes]
  have hy : y = ix2 (y 0) (y 1) := eq_ix2 y
  have he : ((win0_3.blk t).view.emb y) = ix2 (place t (y 0)) (y 1) := by blk_ext [index_3 t, place]
  rw [he, hy]
  have key (i : Fin 2048) (j : Fin 8) : out0_3 (F := Ideal) (iblk m c 0 t) (V m c main_arg1) (ix2 i j)
      = gIndex (V m c main_v0) (V m c main_arg1) (ix2 (place t i) j) :=
    (out3_apply _ _ hc i j).trans (congrArg (fun r => BitVec.ofNat 32 (index r (kBooks (V m c main_arg1)) j.val).val) (row_iblk m c t i))
  exact key (y 0) (y 1)

/-- The grid's third array. -/
theorem array_4 : (dats m 0 c).arrAt 4 cfg0.N = gLoss (V m c main_v0) (V m c main_arg1) := by
  refine (dats m 0 c).arrAt_eq_of_covers 4 _ (by decide +kernel) fun t hf y => ?_
  blk_simp
  rw [after0_4, iblk_codes]
  have hy : y = ix3 0 0 (y 2) := by
    funext a
    fin_cases a
    · exact Fin.ext (Nat.lt_one_iff.1 (y 0).isLt)
    · exact Fin.ext (Nat.lt_one_iff.1 (y 1).isLt)
    · rfl
  have he : ((win0_4.blk t).view.emb y) = ix3 (t : Fin 4) 0 (y 2) := by
    rw [hy]
    blk_ext [index_4 t]
  rw [he, hy]
  refine (out4_apply _ _ hc (y 2)).trans ?_
  refine Finset.sum_congr rfl fun i _ => Finset.sum_congr rfl fun j _ => ?_
  rw [row_iblk]
  rfl

end Cert.Rvq
-- ==== Proof.Rvq.Line.lean ====
/- A host program read as equations. Every tensor value of such a program has a buffer of its own, written once, after
   its operands' buffers. So at the end each buffer still holds its operation's value of what the operands' buffers
   hold at the end, and the run can be read as that set of equations, in any order. The buffers' numbers, which grow along
   the program, say that no later operation writes what an earlier one touched. -/
module

public import Idealize.ShloMosaic.Lib.StableHlo.RunHlo

@[expose] public section

noncomputable section

namespace Cert.Rvq

open Idealize.ShloMosaic Idealize.ShloMosaic.StableHlo Idealize.SL.Sem

variable {nD : Nat} {τ : Topo} {sig : RefSig} {Val : EltTy → Type} {Λ : Labels}

/-- The number of a tensor value's buffer. -/
def num (τ : Topo) {sig : RefSig} (r : Ref sig .tc) : Nat := (Proc.devRef (τ := τ) .tc r).idx.val

/-- A program that is a line of operations writing buffers numbered from `a` up to `c` only, at whose end `E` holds of
    the contents, as of any contents that agree with those on the buffers numbered below `c`. -/
def Line (a c : Nat) (p : Prog (TpuEff nD τ sig Val Λ .tc) PUnit) (E : Valuation τ sig Val → Prop) : Prop :=
  ∃ ops : List (HloOp τ sig Val), p = seq ops ∧ (∀ op ∈ ops, op.bufs ⊆ tcRefs τ sig) ∧ (∀ op ∈ ops, op.fresh = ∅)
    ∧ a ≤ c ∧ (∀ V b, b.idx.val < a → after ops V b = V b)
    ∧ ∀ V W, (∀ b, b.idx.val < c → W b = after ops V b) → E W

variable {a b c : Nat} {p q : Prog (TpuEff nD τ sig Val Λ .tc) PUnit} {E E' : Valuation τ sig Val → Prop}

theorem Line.mono (h : Line a c p E) (hE : ∀ W, E W → E' W) : Line a c p E' := by
  obtain ⟨ops, h1, h2, h3, h4, h5, h6⟩ := h
  exact ⟨ops, h1, h2, h3, h4, h5, fun V W hW => hE W (h6 V W hW)⟩

/-- The empty line. -/
theorem Line.nil : Line a a (pure ⟨⟩ : Prog (TpuEff nD τ sig Val Λ .tc) PUnit) fun _ => True :=
  ⟨[], rfl, by simp, by simp, le_rfl, fun _ _ _ => rfl, fun _ _ _ => trivial⟩

/-- One line after the other: what either says holds at the end. -/
theorem Line.bind (h : Line a b p E) (h' : Line b c q E') :
    Line a c (p >>= fun _ => q) fun W => E W ∧ E' W := by
  obtain ⟨ops, h1, h2, h3, h4, h5, h6⟩ := h
  obtain ⟨ops', k1, k2, k3, k4, k5, k6⟩ := h'
  have happ : ∀ (l l' : List (HloOp τ sig Val)) V, after (l ++ l') V = after l' (after l V) := by
    intro l l'
    induction l with
    | nil => intro V; rfl
    | cons o l ih => intro V; exact ih _
  refine ⟨ops ++ ops', by rw [h1, k1, seq_append], fun o ho => ?_, fun o ho => ?_, h4.trans k4, fun V x hx => ?_,
    fun V W hW => ?_⟩
  · exact (List.mem_append.1 ho).elim (h2 o) (k2 o)
  · exact (List.mem_append.1 ho).elim (h3 o) (k3 o)
  · rw [happ, k5 _ _ (by omega), h5 _ _ hx]
  · refine ⟨h6 V W fun x hx => ?_, k6 (after ops V) W fun x hx => ?_⟩
    · rw [hW x (by omega), happ, k5 _ _ hx]
    · rw [hW x hx, happ]

/-- One operation that writes the buffer `y`, numbered `a`, alone. -/
theorem Line.one (op : HloOp τ sig Val) (y : Ref sig .tc) (hb : op.bufs ⊆ tcRefs τ sig) (hf : op.fresh = ∅)
    (hw : op.writes = {Proc.devRef (τ := τ) .tc y}) (hy : num τ y = a)
    (hE : ∀ V W : Valuation τ sig Val, W (Proc.devRef .tc y) = op.result V (Proc.devRef .tc y) →
      (∀ x : Ref sig .tc, num τ x < a → W (Proc.devRef .tc x) = V (Proc.devRef .tc x)) → E W) :
    Line a (a + 1) (hlo rfl op fun _ => .ret ⟨⟩ : Prog (TpuEff nD τ sig Val Λ .tc) PUnit) E := by
  have keep (V : Valuation τ sig Val) (x : DevRef τ sig) (hx : x.idx.val < a) : op.result V x = V x :=
    op.result_of_not_mem V (by
      rw [hw, Finset.mem_singleton]
      rintro rfl
      exact absurd hy (by unfold num; omega))
  refine ⟨[op], ?_, by simpa using hb, by simpa using hf, by omega, fun V x hx => keep V x hx, fun V W hW => hE V W ?_ ?_⟩
  · rfl
  · exact hW _ (by unfold num at hy; omega)
  · intro x hx
    rw [hW _ (by unfold num at hx; omega)]
    exact keep V _ hx

/-- The contents of a typed reference, at its type. -/
def get {T : BufTy} (W : Valuation τ sig Val) (t : TRef sig T) : T.Contents Val := t.ofBuf (W (Proc.devRef .tc t.ref))

theorem get_of_eq {T : BufTy} (W : Valuation τ sig Val) (t : TRef sig T) (v : T.Contents Val)
    (h : W (Proc.devRef .tc t.ref) = t.toBuf v) : get W t = v := by
  unfold get
  rw [h, TRef.ofBuf_toBuf]

variable {Tx Ta Tb Tc Te Ty : BufTy}

theorem Line.nullary (y : TRef sig Ty) (v : Ty.Contents Val) (hy : num τ y.ref = a) :
    Line a (a + 1) (hlo rfl (TRef.nullary y v) fun _ => .ret ⟨⟩ : Prog (TpuEff nD τ sig Val Λ .tc) PUnit)
      fun W => get W y = v :=
  Line.one _ y.ref (nullary_bufs_sub ..) rfl rfl hy fun V W h _ => get_of_eq W y v (h.trans (nullary_result ..))

theorem Line.unary (x : TRef sig Tx) (y : TRef sig Ty) (f : Tx.Contents Val → Ty.Contents Val)
    (hy : num τ y.ref = a) (hx : num τ x.ref < a) :
    Line a (a + 1) (hlo rfl (TRef.unary x y f) fun _ => .ret ⟨⟩ : Prog (TpuEff nD τ sig Val Λ .tc) PUnit)
      fun W => get W y = f (get W x) :=
  Line.one _ y.ref (unary_bufs_sub ..) rfl rfl hy fun V W h k => get_of_eq W y _ (h.trans (by
    rw [unary_result, ← k _ hx]; rfl))

theorem Line.binary (x : TRef sig Ta) (z : TRef sig Tb) (y : TRef sig Ty)
    (f : Ta.Contents Val → Tb.Contents Val → Ty.Contents Val)
    (hy : num τ y.ref = a) (hx : num τ x.ref < a) (hz : num τ z.ref < a) :
    Line a (a + 1) (hlo rfl (TRef.binary x z y f) fun _ => .ret ⟨⟩ : Prog (TpuEff nD τ sig Val Λ .tc) PUnit)
      fun W => get W y = f (get W x) (get W z) :=
  Line.one _ y.ref (binary_bufs_sub ..) rfl rfl hy fun V W h k => get_of_eq W y _ (h.trans (by
    rw [binary_result, ← k _ hx, ← k _ hz]; rfl))

theorem Line.ternary (x : TRef sig Tc) (z : TRef sig Ta) (w : TRef sig Tb) (y : TRef sig Ty)
    (f : Tc.Contents Val → Ta.Contents Val → Tb.Contents Val → Ty.Contents Val)
    (hy : num τ y.ref = a) (hx : num τ x.ref < a) (hz : num τ z.ref < a) (hw : num τ w.ref < a) :
    Line a (a + 1) (hlo rfl (TRef.ternary x z w y f) fun _ => .ret ⟨⟩ : Prog (TpuEff nD τ sig Val Λ .tc) PUnit)
      fun W => get W y = f (get W x) (get W z) (get W w) :=
  Line.one _ y.ref (ternary_bufs_sub ..) rfl rfl hy fun V W h k => get_of_eq W y _ (h.trans (by
    rw [ternary_result, ← k _ hx, ← k _ hz, ← k _ hw]; rfl))

theorem Line.quaternary (x : TRef sig Ta) (z : TRef sig Tb) (w : TRef sig Tc) (u : TRef sig Te) (y : TRef sig Ty)
    (f : Ta.Contents Val → Tb.Contents Val → Tc.Contents Val → Te.Contents Val → Ty.Contents Val)
    (hy : num τ y.ref = a) (hx : num τ x.ref < a) (hz : num τ z.ref < a) (hw : num τ w.ref < a)
    (hu : num τ u.ref < a) :
    Line a (a + 1) (hlo rfl (TRef.quaternary x z w u y f) fun _ => .ret ⟨⟩ : Prog (TpuEff nD τ sig Val Λ .tc) PUnit)
      fun W => get W y = f (get W x) (get W z) (get W w) (get W u) :=
  Line.one _ y.ref (quaternary_bufs_sub ..) rfl rfl hy fun V W h k => get_of_eq W y _ (h.trans (by
    rw [quaternary_result, ← k _ hx, ← k _ hz, ← k _ hw, ← k _ hu]; rfl))

/-- A reshape through typed references is a reshape at their types. -/
theorem reshape_cast {s t : Shape} {e : EltTy} {X Y : BufTy} (ex : X = ⟨s, e⟩) (ey : Y = ⟨t, e⟩)
    (he : X.elt = Y.elt) (hn' : X.shape.ShapeCasts Y.shape) (hn : s.ShapeCasts t) (v : X.Contents Val) :
    cast (congrArg (BufTy.Contents Val) ey) (fun i => he ▸ shapeCast Y.shape v hn' i)
      = (shapeCast t (cast (congrArg (BufTy.Contents Val) ex) v : (⟨s, e⟩ : BufTy).Contents Val) hn
        : (⟨t, e⟩ : BufTy).Contents Val) := by
  subst ex
  subst ey
  rfl

theorem Line.reshape {s t : Shape} {e : EltTy} (x : TRef sig ⟨s, e⟩) (y : TRef sig ⟨t, e⟩) (hn : s.ShapeCasts t)
    (hy : num τ y.ref = a) (hx : num τ x.ref < a) :
    Line a (a + 1) (hlo rfl (TRef.reshape x y rfl hn) fun _ => .ret ⟨⟩ : Prog (TpuEff nD τ sig Val Λ .tc) PUnit)
      fun W => get W y = shapeCast t (get W x) hn := by
  refine Line.one _ y.ref (reshape_bufs_sub ..) rfl rfl hy fun V W h k => ?_
  rw [reshape_result, ← k _ hx] at h
  unfold get
  rw [h]
  exact reshape_cast x.ty_eq y.ty_eq _ _ hn _

/-! ### The same at plain references -/

theorem Line.plainNullary (y : Ref sig .tc) (v : y.ty.Contents Val)
    (dy : y.space ≠ .host ∧ (Proc.devRef (τ := τ) .tc y).isScoped = false) (hy : num τ y = a) :
    Line a (a + 1) (hlo rfl (StableHlo.nullary y v dy) fun _ => .ret ⟨⟩ : Prog (TpuEff nD τ sig Val Λ .tc) PUnit)
      fun W => W (Proc.devRef .tc y) = v :=
  Line.one _ y (nullary_bufs_sub ..) rfl rfl hy fun V W h _ => h.trans (nullary_result ..)

theorem Line.plainUnary (x y : Ref sig .tc) (f : x.ty.Contents Val → y.ty.Contents Val)
    (dx : x.space ≠ .host ∧ (Proc.devRef (τ := τ) .tc x).isScoped = false) (dy : y.space ≠ .host ∧ (Proc.devRef (τ := τ) .tc y).isScoped = false)
    (hy : num τ y = a) (hx : num τ x < a) :
    Line a (a + 1) (hlo rfl (StableHlo.unary x y f dx dy) fun _ => .ret ⟨⟩ : Prog (TpuEff nD τ sig Val Λ .tc) PUnit)
      fun W => W (Proc.devRef .tc y) = f (W (Proc.devRef .tc x)) :=
  Line.one _ y (unary_bufs_sub ..) rfl rfl hy fun V W h k => h.trans (by rw [unary_result, ← k _ hx])

theorem Line.plainBinary (x z y : Ref sig .tc) (f : x.ty.Contents Val → z.ty.Contents Val → y.ty.Contents Val)
    (dx : x.space ≠ .host ∧ (Proc.devRef (τ := τ) .tc x).isScoped = false) (dz : z.space ≠ .host ∧ (Proc.devRef (τ := τ) .tc z).isScoped = false)
    (dy : y.space ≠ .host ∧ (Proc.devRef (τ := τ) .tc y).isScoped = false)
    (hy : num τ y = a) (hx : num τ x < a) (hz : num τ z < a) :
    Line a (a + 1) (hlo rfl (StableHlo.binary x z y f dx dz dy) fun _ => .ret ⟨⟩ : Prog (TpuEff nD τ sig Val Λ .tc) PUnit)
      fun W => W (Proc.devRef .tc y) = f (W (Proc.devRef .tc x)) (W (Proc.devRef .tc z)) :=
  Line.one _ y (binary_bufs_sub ..) rfl rfl hy fun V W h k => h.trans (by rw [binary_result, ← k _ hx, ← k _ hz])

theorem Line.plainNary {n : Nat} (xs : Fin n → Ref sig .tc) (y : Ref sig .tc)
    (f : ((k : Fin n) → (xs k).ty.Contents Val) → y.ty.Contents Val)
    (dx : ∀ k, (xs k).space ≠ .host ∧ (Proc.devRef (τ := τ) .tc (xs k)).isScoped = false)
    (dy : y.space ≠ .host ∧ (Proc.devRef (τ := τ) .tc y).isScoped = false)
    (hy : num τ y = a) (hx : ∀ k, num τ (xs k) < a) :
    Line a (a + 1) (hlo rfl (StableHlo.nary xs y f dx dy) fun _ => .ret ⟨⟩ : Prog (TpuEff nD τ sig Val Λ .tc) PUnit)
      fun W => W (Proc.devRef .tc y) = f fun k => W (Proc.devRef .tc (xs k)) :=
  Line.one _ y (nary_bufs_sub ..) rfl rfl hy fun V W h k => h.trans (by
    rw [nary_result]; exact congrArg f (funext fun i => (k _ (hx i)).symm))

theorem Line.plainReshape (x y : Ref sig .tc) (he : x.ty.elt = y.ty.elt) (hn : x.ty.shape.ShapeCasts y.ty.shape)
    (dx : x.space ≠ .host ∧ (Proc.devRef (τ := τ) .tc x).isScoped = false) (dy : y.space ≠ .host ∧ (Proc.devRef (τ := τ) .tc y).isScoped = false)
    (hy : num τ y = a) (hx : num τ x < a) :
    Line a (a + 1) (hlo rfl (StableHlo.reshape x y he hn dx dy) fun _ => .ret ⟨⟩ : Prog (TpuEff nD τ sig Val Λ .tc) PUnit)
      fun W => W (Proc.devRef .tc y) = fun i => he ▸ shapeCast y.ty.shape (W (Proc.devRef .tc x)) hn i :=
  Line.one _ y (reshape_bufs_sub ..) rfl rfl hy fun V W h k => h.trans (by rw [reshape_result, ← k _ hx])

/-- The run of a line: at the end of every execution the buffers hold contents of which `E` holds, and the
    buffers numbered below `a` hold what they held. -/
theorem Line.run (hR : (Finset.univ.filter fun b : Ref sig .tc => b.isScoped) = ∅)
    (hC : (Finset.univ.filter fun sm : SemLoc sig => sm.isScoped .tc) = ∅)
    (defs : Defs nD τ sig Val Λ) (main : Dev nD → Prog (TpuEff nD τ sig Val Λ .tc) PUnit)
    (h : ∀ d, Line a c (main d) E) (m : (ℓ : Loc nD τ sig) → Buf Val ℓ) (ρ : Dev nD → PrngReg) :
    θ_run defs (onTc (τ := τ) main) ⟨m, fun _ => 0, ρ⟩ fun r => ∀ d : Dev nD, ∃ W : Valuation τ sig Val,
      (∀ b : Ref sig .tc, r.2.mem ((d.tc : Thread nD τ).loc b) = W (Proc.devRef .tc b)) ∧ E W
      ∧ ∀ b : Ref sig .tc, num τ b < a → W (Proc.devRef .tc b) = launchContents m d (Proc.devRef .tc b) := by
  choose ops h1 h2 h3 h4 h5 h6 using h
  refine θ_run_mono (run_seq hR hC defs main ops h1 (fun d => List.forall_iff_forall_mem.2 (h2 d)) m ρ h3) fun r hr d => ?_
  exact ⟨after (ops d) (launchContents m d), hr d, h6 d _ _ fun _ _ => rfl, fun b hb => h5 d _ _ hb⟩

end Cert.Rvq
-- ==== Proof.Rvq.Layer.lean ====
/- One stage of the reference as a function of its two arguments, and the proof that the stage's operations, over any
   buffers numbered in program order, leave that function's values in its result buffers. -/
module

public import proofs.«01_k».proof.Proof.Gen.ReferenceIdeal
public import proofs.«01_k».proof.Proof.Rvq.Line
public import proofs.«01_k».proof.Proof.Rvq.Spec

@[expose] public section

noncomputable section

namespace Cert.Rvq

open Idealize.ShloMosaic Idealize.ShloMosaic.StableHlo Idealize.SL.Sem Cert.ReferenceIdeal Cert.ReferenceIdeal.Gen

/-- A line of the reference's operations. -/
abbrev RefLine (a c : Nat) (p : Prog (TpuEff nD τ sig (Elt Ideal) (Pipeline.Sig Λ₀ (Fin 0) fun p => (pcfgs (F := Ideal) p).Adm) .tc) PUnit)
    (E : Valuation τ sig (Elt Ideal) → Prop) : Prop := Line a c p E

/-- The reference's distances of all rows to all codes. -/
def refDists (x : FVec Ideal S8x1024x256 .f32) (e : FVec Ideal S1024x256 .f32) : FVec Ideal S8192x1024 .f32 :=
  addf (subf (broadcastInDim S8192x1024 ![0, 1] bcast_S8192x1_S8192x1024_0_1
      (broadcastInDim S8192x1 ![0] bcast_S8192_S8192x1_0
        (Host.reduceAdd (mulf (shapeCast S8192x256 x shapeCasts_S8x1024x256_S8192x256)
            (shapeCast S8192x256 x shapeCasts_S8x1024x256_S8192x256))
          (constant S_ .f32 0x00000000#32) reducesTo_S8192x256_S8192_d1 h_S_)))
      (Host.dotGeneral dot_S8192x256_S256x1024_S8192x1024_1_0_0_1_n_n none
        (mulf (broadcastInDim S8192x256 ![] bcast_S_S8192x256 (constant S_ .f32 0x40000000#32))
          (shapeCast S8192x256 x shapeCasts_S8x1024x256_S8192x256))
        (transpose S256x1024 [1, 0] e transposes_S1024x256_S256x1024_1_0)))
    (broadcastInDim S8192x1024 ![0, 1] bcast_S1x1024_S8192x1024_0_1
      (broadcastInDim S1x1024 ![1] bcast_S1024_S1x1024_1
        (Host.reduceAdd (mulf e e) (constant S_ .f32 0x00000000#32) reducesTo_S1024x256_S1024_d1 h_S_)))

/-- The index of the least entry of every row. -/
def refArgmin (D : FVec Ideal S8192x1024 .f32) : IVec S8192 32 :=
  fun j => (Host.argReduce reducer_argmin_f32_i32 D (iotaInDim S8192x1024 32 1) (constant S_ .f32 0x7F800000#32)
    (constantI S_ 32 0#32) reducesTo_S8192x1024_S8192_d1 h_S_ j).2

/-- An index counted from the end where it is negative. -/
def refWrap (n : IVec S8192 32) : IVec S8192 32 :=
  select (cmpi .slt n (broadcastInDim S8192 ![] bcast_S_S8192 (constantI S_ 32 0#32)))
    (addi n (broadcastInDim S8192 ![] bcast_S_S8192 (constantI S_ 32 1024#32))) n

/-- The indices, as a column. -/
def refColumn (n : IVec S8192 32) : IVec S8192x1 32 := broadcastInDim S8192x1 ![0] bcast_S8192_S8192x1_0 (refWrap n)

/-- Where the indices are in range. -/
def refInside (n : IVec S8192 32) : IVec S8192 1 :=
  Host.reduce IntOp.andi
    (andi (cmpi .sge (refColumn n) (broadcastInDim S8192x1 ![] bcast_S_S8192x1 (constantI S_ 32 0#32)))
      (cmpi .sle (refColumn n) (broadcastInDim S8192x1 ![0, 1] bcast_S1x1_S8192x1_0_1
        (broadcastInDim S1x1 ![1] bcast_S1_S1x1_1 (constantI S1 32 1023#32)))))
    (constantI S_ 1 1#1) reducesTo_S8192x1_S8192_d1 h_S_

/-- The codes at the indices. -/
def refTake (e : FVec Ideal S1024x256 .f32) (n : IVec S8192 32) : FVec Ideal S8192x256 .f32 :=
  select (broadcastInDim S8192x256 ![0] bcast_S8192_S8192x256_0 (refInside n))
    (Host.gather gather_S1024x256_S8192x1_S8192x256_1_0_n_n_0_1_1256 e (refColumn n))
    (broadcastInDim S8192x256 ![] bcast_S_S8192x256 (constant S_ .f32 0x7FC00000#32))

/-- The code of every row, in the argument's shape. -/
def refCodes (x : FVec Ideal S8x1024x256 .f32) (e : FVec Ideal S1024x256 .f32) : FVec Ideal S8x1024x256 .f32 :=
  shapeCast S8x1024x256 (refTake e (refArgmin (refDists x e))) shapeCasts_S8192x256_S8x1024x256

/-- A stage's first result: what it adds to the quantized output. -/
def refOut (x : FVec Ideal S8x1024x256 .f32) (e : FVec Ideal S1024x256 .f32) : FVec Ideal S8x1024x256 .f32 :=
  addf x (subf (refCodes x e) x)

/-- A stage's second result: the indices. -/
def refIds (x : FVec Ideal S8x1024x256 .f32) (e : FVec Ideal S1024x256 .f32) : IVec S8x1024 32 :=
  shapeCast S8x1024 (refArgmin (refDists x e)) shapeCasts_S8192_S8x1024

/-- A stage's third result: the mean squared difference. -/
def refLoss (x : FVec Ideal S8x1024x256 .f32) (e : FVec Ideal S1024x256 .f32) : FVec Ideal S_ .f32 :=
  Host.divf (Host.reduceAdd (mulf (subf (refCodes x e) x) (subf (refCodes x e) x)) (constant S_ .f32 0x00000000#32)
    reducesTo_S8x1024x256_S_d0_1_2 h_S_) (constant S_ .f32 0x4A000000#32)

/-- The numbers of the buffers of the first nearest code's operations. -/
def argminNums (φ : fn_argmin.Bufs) : List Nat :=
  [num τ φ.v0.ref, num τ φ.cst.ref, num τ φ.c.ref, num τ φ.v1_0.ref, num τ φ.v1_1.ref]

set_option maxHeartbeats 2000000 in
theorem argmin_line (a : Nat) (x : TRef sig ⟨S8192x1024, .f32⟩) (φ : fn_argmin.Bufs) (hx : num τ x.ref < a)
    (h : argminNums φ = List.range' a 5) :
    RefLine a (a + 5) (fn_argmin.body (F := Ideal) x φ) fun W => get W φ.v1_1 = refArgmin (get W x) := by
  simp only [argminNums, List.range', List.cons.injEq, and_true] at h
  unfold fn_argmin.body
  refine Line.mono (Line.bind (Line.nullary _ _ ?_) <| Line.bind (Line.nullary _ _ ?_) <|
    Line.bind (Line.nullary _ _ ?_) <| Line.bind (Line.quaternary _ _ _ _ _ _ ?_ ?_ ?_ ?_ ?_) <|
    Line.bind (Line.quaternary _ _ _ _ _ _ ?_ ?_ ?_ ?_ ?_) Line.nil) ?_
  rotate_right
  · rintro W ⟨h0, h1, h2, -, h4, -⟩
    rw [h4, h0, h1, h2]
    rfl
  all_goals (try simp only [h]) <;> (clear h; omega)

/-- The numbers of the buffers of the lookup's operations. -/
def takeNums (φ : fn_take.Bufs) : List Nat :=
  [num τ φ.c.ref, num τ φ.v0.ref, num τ φ.v1.ref, num τ φ.c_0.ref, num τ φ.v2.ref, num τ φ.v3.ref,
   num τ φ.call0.v0.ref, num τ φ.v5.ref, num τ φ.c_1.ref, num τ φ.c_2.ref, num τ φ.v6.ref, num τ φ.v7.ref,
   num τ φ.v8.ref, num τ φ.v9.ref, num τ φ.v10.ref, num τ φ.v11.ref, num τ φ.c_3.ref, num τ φ.v12.ref,
   num τ φ.v13.ref, num τ φ.v14.ref, num τ φ.cst.ref, num τ φ.v15.ref, num τ φ.v16.ref]

set_option maxHeartbeats 2000000 in
theorem take_line (a : Nat) (e : TRef sig ⟨S1024x256, .f32⟩) (n : TRef sig ⟨S8192, .i32⟩) (φ : fn_take.Bufs)
    (he : num τ e.ref < a) (hn : num τ n.ref < a) (h : takeNums φ = List.range' a 23) :
    RefLine a (a + 23) (fn_take.body (F := Ideal) e n φ) fun W => get W φ.v16 = refTake (get W e) (get W n) := by
  simp only [takeNums, List.range', List.cons.injEq, and_true] at h
  unfold fn_take.body fn_where.body
  refine Line.mono (Line.bind (Line.nullary _ _ ?_) <| Line.bind (Line.unary _ _ _ ?_ ?_) <|
    Line.bind (Line.binary _ _ _ _ ?_ ?_ ?_) <| Line.bind (Line.nullary _ _ ?_) <|
    Line.bind (Line.unary _ _ _ ?_ ?_) <| Line.bind (Line.binary _ _ _ _ ?_ ?_ ?_) <|
    Line.bind (Line.bind (Line.ternary _ _ _ _ _ ?_ ?_ ?_ ?_) Line.nil) <|
    Line.bind (Line.unary _ _ _ ?_ ?_) <| Line.bind (Line.nullary _ _ ?_) <| Line.bind (Line.nullary _ _ ?_) <|
    Line.bind (Line.unary _ _ _ ?_ ?_) <| Line.bind (Line.binary _ _ _ _ ?_ ?_ ?_) <|
    Line.bind (Line.unary _ _ _ ?_ ?_) <| Line.bind (Line.unary _ _ _ ?_ ?_) <|
    Line.bind (Line.binary _ _ _ _ ?_ ?_ ?_) <| Line.bind (Line.binary _ _ _ _ ?_ ?_ ?_) <|
    Line.bind (Line.nullary _ _ ?_) <| Line.bind (Line.binary _ _ _ _ ?_ ?_ ?_) <|
    Line.bind (Line.binary _ _ _ _ ?_ ?_ ?_) <| Line.bind (Line.unary _ _ _ ?_ ?_) <|
    Line.bind (Line.nullary _ _ ?_) <| Line.bind (Line.unary _ _ _ ?_ ?_) <|
    Line.bind (Line.ternary _ _ _ _ _ ?_ ?_ ?_ ?_) Line.nil) ?_
  rotate_right
  · rintro W ⟨c, v0, v1, c0, v2, v3, ⟨w0, -⟩, v5, c1, c2, v6, v7, v8, v9, v10, v11, c3, v12, v13, v14, cst, v15, v16, -⟩
    rw [v16, v15, v14, v13, v12, v11, v10, v9, v8, v7, v6, v5, w0, v3, v2, v1, v0, c, c0, c1, c2, c3, cst]
    rfl
  all_goals (try simp only [h]) <;> (clear h; omega)

/-- The numbers of the buffers of one stage's own operations: before the calls it makes, and after. -/
def layerNums (φ : fn_vq_layer_0.Bufs) : List Nat :=
  [num τ φ.v0.ref, num τ φ.v1.ref, num τ φ.cst.ref, num τ φ.v2.ref, num τ φ.v3.ref, num τ φ.cst_0.ref, num τ φ.v4.ref,
   num τ φ.v5.ref, num τ φ.v6.ref, num τ φ.v7.ref, num τ φ.v8.ref, num τ φ.v9.ref, num τ φ.v10.ref, num τ φ.cst_1.ref,
   num τ φ.v11.ref, num τ φ.v12.ref, num τ φ.v13.ref, num τ φ.v14.ref]

@[inherit_doc layerNums]
def layerNums' (φ : fn_vq_layer_0.Bufs) : List Nat :=
  [num τ φ.v17.ref, num τ φ.v18.ref, num τ φ.v19.ref, num τ φ.cst_2.ref, num τ φ.v20.ref, num τ φ.cst_3.ref,
   num τ φ.v21.ref, num τ φ.v22.ref, num τ φ.v23.ref, num τ φ.v24.ref]

/-- The buffers of a stage are numbered in program order from `a`. -/
structure Numbered (a : Nat) (φ : fn_vq_layer_0.Bufs) : Prop where
  before : layerNums φ = List.range' a 18
  least : argminNums φ.call0 = List.range' (a + 18) 5
  lookup : takeNums φ.call1 = List.range' (a + 23) 23
  later : layerNums' φ = List.range' (a + 46) 10

set_option maxHeartbeats 8000000 in
/-- A stage leaves its three results in its result buffers. -/
theorem layer_line (a : Nat) (x : TRef sig ⟨S8x1024x256, .f32⟩) (e : TRef sig ⟨S1024x256, .f32⟩) (φ : fn_vq_layer_0.Bufs)
    (hx : num τ x.ref < a) (he : num τ e.ref < a) (hφ : Numbered a φ) :
    RefLine a (a + 56) (fn_vq_layer_0.body (F := Ideal) x e φ) fun W =>
      get W φ.v23 = refOut (get W x) (get W e) ∧ get W φ.v24 = refIds (get W x) (get W e)
        ∧ get W φ.v21 = refLoss (get W x) (get W e) := by
  obtain ⟨h1, h2, h3, h4⟩ := hφ
  have h2' : num τ φ.call0.v1_1.ref = a + 22 := by
    simp only [argminNums, List.range', List.cons.injEq, and_true] at h2
    exact h2.2.2.2.2
  have h3' : num τ φ.call1.v16.ref = a + 45 := by
    simp only [takeNums, List.range', List.cons.injEq, and_true] at h3
    obtain ⟨-, -, -, -, -, -, -, -, -, -, -, -, -, -, -, -, -, -, -, -, -, -, h⟩ := h3
    exact h
  simp only [layerNums, layerNums', List.range', List.cons.injEq, and_true] at h1 h4
  unfold fn_vq_layer_0.body
  refine Line.mono (Line.bind (Line.reshape _ _ _ ?_ ?_) <| Line.bind (Line.binary _ _ _ _ ?_ ?_ ?_) <|
    Line.bind (Line.nullary _ _ ?_) <| Line.bind (Line.binary _ _ _ _ ?_ ?_ ?_) <|
    Line.bind (Line.unary _ _ _ ?_ ?_) <| Line.bind (Line.nullary _ _ ?_) <| Line.bind (Line.unary _ _ _ ?_ ?_) <|
    Line.bind (Line.binary _ _ _ _ ?_ ?_ ?_) <| Line.bind (Line.unary _ _ _ ?_ ?_) <|
    Line.bind (Line.binary _ _ _ _ ?_ ?_ ?_) <| Line.bind (Line.unary _ _ _ ?_ ?_) <|
    Line.bind (Line.binary _ _ _ _ ?_ ?_ ?_) <| Line.bind (Line.binary _ _ _ _ ?_ ?_ ?_) <|
    Line.bind (Line.nullary _ _ ?_) <| Line.bind (Line.binary _ _ _ _ ?_ ?_ ?_) <|
    Line.bind (Line.unary _ _ _ ?_ ?_) <| Line.bind (Line.unary _ _ _ ?_ ?_) <|
    Line.bind (Line.binary _ _ _ _ ?_ ?_ ?_) <|
    Line.bind (argmin_line _ _ _ ?_ h2) <| Line.bind (take_line _ _ _ _ ?_ ?_ h3) <|
    Line.bind (Line.reshape _ _ _ ?_ ?_) <| Line.bind (Line.binary _ _ _ _ ?_ ?_ ?_) <|
    Line.bind (Line.binary _ _ _ _ ?_ ?_ ?_) <| Line.bind (Line.nullary _ _ ?_) <|
    Line.bind (Line.binary _ _ _ _ ?_ ?_ ?_) <| Line.bind (Line.nullary _ _ ?_) <|
    Line.bind (Line.binary _ _ _ _ ?_ ?_ ?_) <| Line.bind (Line.binary _ _ _ _ ?_ ?_ ?_) <|
    Line.bind (Line.binary _ _ _ _ ?_ ?_ ?_) <| Line.bind (Line.reshape _ _ _ ?_ ?_) Line.nil) ?_
  rotate_right
  · rintro W ⟨v0, v1, cst, v2, v3, cst0, v4, v5, v6, v7, v8, v9, v10, cst1, v11, v12, v13, v14, am, tk, v17, v18, v19,
      cst2, v20, cst3, v21, v22, v23, v24, -⟩
    have hD : get W φ.v14 = refDists (get W x) (get W e) := by
      rw [v14, v13, v12, v11, v10, v9, v8, v7, v6, v5, v4, v3, v2, v1, v0, cst, cst0, cst1]
      rfl
    have hq : get W φ.v17 = refCodes (get W x) (get W e) := by
      rw [v17, tk, am, hD]
      rfl
    refine ⟨?_, ?_, ?_⟩
    · rw [v23, v22, hq]
      rfl
    · rw [v24, am, hD]
      rfl
    · rw [v21, v20, v19, v18, hq, cst2, cst3]
      rfl
  all_goals (try simp only [h1, h2', h3', h4]) <;> (clear h1 h2 h2' h3 h3' h4; omega)

end Cert.Rvq
-- ==== Proof.Rvq.RefRows.lean ====
/- One stage of the reference, read row by row: its distances, the first nearest code, the lookup of it, and the three
   results of the stage. -/
module

public import Idealize.ShloMosaic.Lib.IdealHost
public import Idealize.ShloMosaic.Lib.StackMember
public import Idealize.ShloMosaic.Lib.Pointwise
public import Idealize.ShloMosaic.Lib.Pipeline.Value
public import proofs.«01_k».proof.Proof.Rvq.Layer
public import proofs.«01_k».proof.Proof.Rvq.Pick

@[expose] public section

noncomputable section

namespace Cert.Rvq

open Idealize.ShloMosaic Cert.ReferenceIdeal Cert.ReferenceIdeal.Gen

/-- Row `t` of batch `b`. -/
def tok (x : FVec Ideal S8x1024x256 .f32) (b : Fin 8) (t : Fin 1024) : Row := fun j => x (ix3 b t j)

/-- A codebook's rows. -/
def codesOf (e : FVec Ideal S1024x256 .f32) : Book := fun k j => e (ix2 k j)

/-- The position of a row among all rows. -/
def comb (b : Fin 8) (t : Fin 1024) : Fin 8192 := ⟨b.val * 1024 + t.val, by omega⟩

theorem flat_apply (x : FVec Ideal S8x1024x256 .f32) (b : Fin 8) (t : Fin 1024) (j : Fin 256) :
    shapeCast S8192x256 x shapeCasts_S8x1024x256_S8192x256 (ix2 (comb b t) j) = tok x b t j :=
  shapeCast_apply _ _ _ (ix3 b t j) (by
    rw [Shape.rowMajor_val_three, Shape.rowMajor_val_two]
    simp [comb])

theorem refDists_apply (x : FVec Ideal S8x1024x256 .f32) (e : FVec Ideal S1024x256 .f32) (b : Fin 8) (t : Fin 1024)
    (k : Fin 1024) : refDists x e (ix2 (comb b t) k) = dist (tok x b t) (codesOf e) k := by
  have h1 : broadcastInDim S8192x1024 ![0, 1] bcast_S8192x1_S8192x1024_0_1
      (broadcastInDim S8192x1 ![0] bcast_S8192_S8192x1_0
        (Host.reduceAdd (mulf (shapeCast S8192x256 x shapeCasts_S8x1024x256_S8192x256)
            (shapeCast S8192x256 x shapeCasts_S8x1024x256_S8192x256))
          (constant S_ .f32 0x00000000#32) reducesTo_S8192x256_S8192_d1 h_S_)) (ix2 (comb b t) k)
      = ∑ j, tok x b t j * tok x b t j := by
    rw [broadcastInDim_apply _ _ _ _ (ix2 (comb b t) 0) (fun a => by fin_cases a <;> rfl),
      broadcastInDim_apply _ _ _ _ (ix1 (comb b t)) (fun a => by fin_cases a <;> rfl),
      ValueIdx.hostReduceAdd_apply, Ideal.hostReduceAdd_r2_a1]
    refine ((congrArg (· + _) (Ideal.ofBits_zero FTy.f32)).trans (zero_add _)).trans
      (Finset.sum_congr rfl fun j _ => ?_)
    exact congrArg₂ (· * ·) (flat_apply x b t j) (flat_apply x b t j)
  have h2 : broadcastInDim S8192x1024 ![0, 1] bcast_S1x1024_S8192x1024_0_1
      (broadcastInDim S1x1024 ![1] bcast_S1024_S1x1024_1
        (Host.reduceAdd (mulf e e) (constant S_ .f32 0x00000000#32) reducesTo_S1024x256_S1024_d1 h_S_))
        (ix2 (comb b t) k) = ∑ j, codesOf e k j * codesOf e k j := by
    rw [broadcastInDim_apply _ _ _ _ (ix2 0 k) (fun a => by fin_cases a <;> rfl),
      broadcastInDim_apply _ _ _ _ (ix1 k) (fun a => by fin_cases a <;> rfl),
      ValueIdx.hostReduceAdd_apply, Ideal.hostReduceAdd_r2_a1]
    exact (congrArg (· + _) (Ideal.ofBits_zero FTy.f32)).trans (zero_add _)
  have h3 : Host.dotGeneral dot_S8192x256_S256x1024_S8192x1024_1_0_0_1_n_n none
        (mulf (broadcastInDim S8192x256 ![] bcast_S_S8192x256 (constant (F := Ideal) S_ .f32 0x40000000#32))
          (shapeCast S8192x256 x shapeCasts_S8x1024x256_S8192x256))
        (transpose S256x1024 [1, 0] e transposes_S1024x256_S256x1024_1_0) (ix2 (comb b t) k)
      = 2 * ∑ j, tok x b t j * codesOf e k j := by
    refine (StackMember.dotGeneral_plain_apply none _ _ (comb b t) k).trans ?_
    rw [two_mul_sum]
    refine Finset.sum_congr rfl fun j _ => ?_
    rw [← mul_assoc]
    refine congrArg₂ (· * ·) (congrArg₂ (· * ·) ofBits_two (flat_apply x b t j)) ?_
    exact transpose_apply _ _ _ (ix2 j k) (ix2 k j) fun b => by fin_cases b <;> rfl
  rw [refDists, ValueIdx.addf_apply, ValueIdx.subf_apply, h1, h2, h3]
  rfl

/-- The reducer returns the lesser of two pairs. -/
theorem reducer_le (a b : EReal × BitVec 32) :
    (reducer_argmin_f32_i32 (F := Ideal) a b = a ∧ Le a b) ∨ (reducer_argmin_f32_i32 (F := Ideal) a b = b ∧ Le b a) := by
  obtain ⟨a, i⟩ := a
  obtain ⟨b, j⟩ := b
  rcases lt_trichotomy a b with h | h | h
  · exact .inl ⟨by simp [reducer_argmin_f32_i32, Ideal.cmpf_def, Ideal.cmp, Scalar.select, IntOp.ori, IntOp.andi, h, h.ne], .inl h⟩
  · subst h
    by_cases h : i.toInt < j.toInt
    · refine .inl ⟨?_, .inr ⟨rfl, h.le⟩⟩
      simp [reducer_argmin_f32_i32, Ideal.cmpf_def, Ideal.cmp, Scalar.select, IntOp.ori, IntOp.andi, IntOp.cmpi, BitVec.slt_eq_decide, h]
    · refine .inr ⟨?_, .inr ⟨rfl, not_lt.1 h⟩⟩
      simp [reducer_argmin_f32_i32, Ideal.cmpf_def, Ideal.cmp, Scalar.select, IntOp.ori, IntOp.andi, IntOp.cmpi, BitVec.slt_eq_decide, h]
  · exact .inr ⟨by simp [reducer_argmin_f32_i32, Ideal.cmpf_def, Ideal.cmp, Scalar.select, IntOp.ori, IntOp.andi, h.not_gt, h.ne'],
      .inl h⟩

/-- Folding a reducer like that over a row of a table gives the row's first least entry. -/
theorem reduce2_first {m : Nat} (h : (⟨2, ![m, 1024]⟩ : Shape).ReducesTo [1] ⟨1, ![m]⟩) (hu : 0 < S_.numel)
    (f : EReal × BitVec 32 → EReal × BitVec 32 → EReal × BitVec 32)
    (hf : ∀ a b, (f a b = a ∧ Le a b) ∨ (f a b = b ∧ Le b a)) (D : (⟨2, ![m, 1024]⟩ : Shape).Idx → EReal)
    (y : (⟨2, ![m, 1024]⟩ : Shape).Idx → BitVec 32) (hy : ∀ i k, y (ix2 i k) = BitVec.ofNat 32 k.val)
    (z : S_.Idx → EReal) (hz : ∀ i, z i = ⊤) (w : S_.Idx → BitVec 32) (hw : ∀ i, w i = 0#32) (i : Fin m) :
    (Host.reduce2 f D y z w h hu (ix1 i)).2 = BitVec.ofNat 32 (first fun k => D (ix2 i k)).val := by
  rw [Host.reduce2_eq_foldl_fiber, hz, hw]
  refine congrArg Prod.snd (foldl_eq_first f hf (fun k => D (ix2 i k)) _ fun p => ?_)
  unfold Host.argReduceFiber
  rw [List.mem_map]
  constructor
  · rintro ⟨n, hn, rfl⟩
    obtain ⟨k, hk⟩ := (h.fiber_r2_a1 _ _).1 (of_decide_eq_true (List.mem_filter.1 hn).2)
    refine ⟨k, ?_⟩
    rw [← hk]
    exact congrArg (Prod.mk _) (hy _ _)
  · rintro ⟨k, rfl⟩
    refine ⟨(⟨2, ![m, 1024]⟩ : Shape).rowMajor (ix2 i k), List.mem_filter.2 ⟨List.mem_finRange _, decide_eq_true ?_⟩, ?_⟩
    · rw [Equiv.symm_apply_apply]
      exact (h.fiber_r2_a1 _ _).2 ⟨k, rfl⟩
    · rw [Equiv.symm_apply_apply, hy]

/-- The same of the operation that folds values with their positions. -/
theorem argReduce_first {m : Nat} (h : (⟨2, ![m, 1024]⟩ : Shape).ReducesTo [1] ⟨1, ![m]⟩) (hu : 0 < S_.numel)
    (f : Ideal .f32 × BitVec 32 → Ideal .f32 × BitVec 32 → Ideal .f32 × BitVec 32)
    (hf : ∀ a b, (f a b = a ∧ Le a b) ∨ (f a b = b ∧ Le b a)) (D : FVec Ideal ⟨2, ![m, 1024]⟩ .f32)
    (y : (⟨2, ![m, 1024]⟩ : Shape).Idx → BitVec 32) (hy : ∀ i k, y (ix2 i k) = BitVec.ofNat 32 k.val)
    (z : FVec Ideal S_ .f32) (hz : ∀ i, z i = (⊤ : EReal)) (w : S_.Idx → BitVec 32) (hw : ∀ i, w i = 0#32) (i : Fin m) :
    (Host.argReduce f D y z w h hu (ix1 i)).2 = BitVec.ofNat 32 (first fun k => D (ix2 i k)).val := by
  have e := Ideal.argReduce_eq_reduce2 (φ := .f32) f D y z w h hu
  rw [e]
  exact reduce2_first h hu f hf D y hy z hz w hw i

theorem refArgmin_eq : refArgmin = fun D => fun j =>
    (Host.argReduce reducer_argmin_f32_i32 D (iotaInDim S8192x1024 32 1) (constant S_ .f32 0x7F800000#32)
    (constantI S_ 32 0#32) reducesTo_S8192x1024_S8192_d1 h_S_ j).2 := rfl
theorem refArgmin_apply (D : FVec Ideal S8192x1024 .f32) (i : Fin 8192) :
    refArgmin D (ix1 i) = BitVec.ofNat 32 (first fun k => D (ix2 i k)).val := by
  have h :=  argReduce_first reducesTo_S8192x1024_S8192_d1 h_S_ (reducer_argmin_f32_i32 (F := Ideal)) reducer_le D
    (iotaInDim S8192x1024 32 1) (fun _ _ => rfl) (constant (F := Ideal) S_ .f32 0x7F800000#32)
    (fun _ => ofBits_inf) (constantI S_ 32 0#32) (fun _ => rfl) i
  exact (congrFun (congrFun refArgmin_eq D) (ix1 i)).trans h

/-- The lookup of a row of codes reads the row at the index, brought into range. -/
theorem gather_apply (e : FVec Ideal S1024x256 .f32) (n : IVec S8192x1 32) (i : Fin 8192) (j : Fin 256) :
    Host.gather gather_S1024x256_S8192x1_S8192x256_1_0_n_n_0_1_1256 e n (ix2 i j)
      = e (ix2 ⟨min (n (ix2 i 0)).toInt.toNat 1023, by omega⟩ j) := by
  unfold Host.gather
  congr 1
  funext a
  refine Fin.ext ?_
  have hb : ∀ a, a ∉ gather_S1024x256_S8192x1_S8192x256_1_0_n_n_0_1_1256.operandBatchingDims := fun a => List.not_mem_nil
  show GatherDims.start _ _ _ a + GatherDims.batchCoord _ _ a + GatherDims.offCoord _ _ a = _
  rw [GatherDims.batchCoord_eq_zero _ _ _ (hb a), Nat.add_zero]
  fin_cases a
  · rw [GatherDims.offCoord_eq_zero _ _ _ (by decide), Nat.add_zero, GatherDims.start, dif_pos (by decide)]
    refine congrArg (fun z => min (n z).toInt.toNat 1023) (funext fun b => Fin.ext ?_)
    fin_cases b <;> rfl
  · rw [GatherDims.start, dif_neg (by decide), Nat.zero_add]
    rfl

theorem refColumn_apply (n : IVec S8192 32) (i : Fin 8192) (k : Fin 1024) (hn : n (ix1 i) = BitVec.ofNat 32 k.val) (z : Fin 1) :
    refColumn n (ix2 i z) = BitVec.ofNat 32 k.val := by
  unfold refColumn
  rw [broadcastInDim_apply _ _ _ _ (ix1 i) (fun a => by fin_cases a; rfl)]
  show Scalar.select (IntOp.cmpi .slt (n (ix1 i)) 0#32) (IntOp.addi (n (ix1 i)) 1024#32) (n (ix1 i)) = _
  rw [hn]
  have h : ¬ (BitVec.ofNat 32 k.val).toInt < 0 := by rw [toInt_index _ (by omega)]; omega
  simp [Scalar.select, IntOp.cmpi, BitVec.slt_eq_decide, h]

theorem all_one (A : IVec S8192x1 1) (i : Fin 8192) (h : ∀ z : Fin 1, A (ix2 i z) = 1#1) :
    Host.reduce IntOp.andi A (constantI S_ 1 1#1) reducesTo_S8192x1_S8192_d1 h_S_ (ix1 i) = 1#1 := by
  simp only [pointwise]
  simp [h, IntOp.andi, constantI]

theorem refInside_apply (n : IVec S8192 32) (i : Fin 8192) (k : Fin 1024) (hn : n (ix1 i) = BitVec.ofNat 32 k.val) :
    refInside n (ix1 i) = 1#1 := by
  have h1 : (0 : Int) ≤ (BitVec.ofNat 32 k.val).toInt := by rw [toInt_index _ (by omega)]; omega
  have h2 : (BitVec.ofNat 32 k.val).toInt ≤ 1023 := by rw [toInt_index _ (by omega)]; omega
  have h : ∀ z : Fin 1, (andi (cmpi .sge (refColumn n) (broadcastInDim S8192x1 ![] bcast_S_S8192x1 (constantI S_ 32 0#32)))
      (cmpi .sle (refColumn n) (broadcastInDim S8192x1 ![0, 1] bcast_S1x1_S8192x1_0_1
        (broadcastInDim S1x1 ![1] bcast_S1_S1x1_1 (constantI S1 32 1023#32))))) (ix2 i z) = 1#1 := by
    intro z
    show IntOp.andi (IntOp.cmpi .sge (refColumn n (ix2 i z)) 0#32) (IntOp.cmpi .sle (refColumn n (ix2 i z)) 1023#32) = _
    rw [refColumn_apply n i k hn]
    simp [IntOp.andi, IntOp.cmpi, BitVec.sle_eq_decide, h1, h2]
  exact all_one _ i h

/-- The lookup of an index in range. -/
theorem refTake_apply (e : FVec Ideal S1024x256 .f32) (n : IVec S8192 32) (i : Fin 8192) (k : Fin 1024)
    (hn : n (ix1 i) = BitVec.ofNat 32 k.val) (j : Fin 256) : refTake e n (ix2 i j) = e (ix2 k j) := by
  have h1 : broadcastInDim S8192x256 ![0] bcast_S8192_S8192x256_0 (refInside n) (ix2 i j) = 1#1 := by
    rw [broadcastInDim_apply _ _ _ _ (ix1 i) (fun a => by fin_cases a; rfl), refInside_apply n i k hn]
  unfold refTake
  rw [ValueIdx.select_apply, h1]
  refine (if_pos (rfl : (1#1 : BitVec 1) = 1)).trans ?_
  refine (gather_apply e (refColumn n) i j).trans (congrArg (fun z => e (ix2 z j)) (Fin.ext ?_))
  show min (refColumn n (ix2 i 0)).toInt.toNat 1023 = k.val
  rw [refColumn_apply n i k hn, toInt_index _ (by omega)]
  omega

theorem first_refDists (x : FVec Ideal S8x1024x256 .f32) (e : FVec Ideal S1024x256 .f32) (b : Fin 8) (t : Fin 1024) :
    refArgmin (refDists x e) (ix1 (comb b t)) = BitVec.ofNat 32 (pick (tok x b t) (codesOf e)).val :=
  (refArgmin_apply _ _).trans (congrArg (fun f => BitVec.ofNat 32 (first f).val) (funext fun k => refDists_apply x e b t k))

theorem refCodes_apply (x : FVec Ideal S8x1024x256 .f32) (e : FVec Ideal S1024x256 .f32) (b : Fin 8) (t : Fin 1024)
    (j : Fin 256) : refCodes x e (ix3 b t j) = codesOf e (pick (tok x b t) (codesOf e)) j := by
  unfold refCodes
  rw [shapeCast_apply _ _ _ (ix2 (comb b t) j) (by
    rw [Shape.rowMajor_val_three, Shape.rowMajor_val_two]
    simp [comb]), refTake_apply e _ _ _ (first_refDists x e b t)]
  rfl

/-- The first result of a stage, a row of it. -/
theorem tok_refOut (x : FVec Ideal S8x1024x256 .f32) (e : FVec Ideal S1024x256 .f32) (b : Fin 8) (t : Fin 1024) :
    tok (refOut x e) b t = code (tok x b t) (codesOf e) := by
  funext j
  exact congrArg (fun z => tok x b t j + (z - tok x b t j)) (refCodes_apply x e b t j)

/-- The second result of a stage. -/
theorem refIds_apply (x : FVec Ideal S8x1024x256 .f32) (e : FVec Ideal S1024x256 .f32) (b : Fin 8) (t : Fin 1024) :
    refIds x e (ix2 b t) = BitVec.ofNat 32 (pick (tok x b t) (codesOf e)).val := by
  unfold refIds
  rw [shapeCast_apply _ _ _ (ix1 (comb b t)) (by
    rw [Shape.rowMajor_val_two, Shape.rowMajor_val_one]
    simp [comb])]
  exact first_refDists x e b t

/-- The third result of a stage. -/
theorem refLoss_apply (x : FVec Ideal S8x1024x256 .f32) (e : FVec Ideal S1024x256 .f32) :
    refLoss x e ix0 = Ideal.div (∑ b, ∑ t, ∑ j, diff (tok x b t) (codesOf e) j * diff (tok x b t) (codesOf e) j)
      (Ideal.ofBits .f32 0x4A000000#32) := by
  unfold refLoss
  rw [ValueIdx.hostDivf_apply, ValueIdx.hostReduceAdd_apply, Ideal.hostReduceAdd_r3_a012]
  refine congrArg₂ Ideal.div (((congrArg (· + _) (Ideal.ofBits_zero FTy.f32)).trans (zero_add _)).trans
    (Finset.sum_congr rfl fun b _ => Finset.sum_congr rfl fun t _ => Finset.sum_congr rfl fun j _ => ?_)) rfl
  exact congrArg (fun z => (z - tok x b t j) * (z - tok x b t j)) (refCodes_apply x e b t j)

end Cert.Rvq
-- ==== Proof.Rvq.Reference.lean ====
/- The reference's run: its operations are one line, so every execution ends with the arguments as they were and the
   results at the chain of its eight stages. -/
module

public import Idealize.ShloMosaic.Lib.Quiescent
public import proofs.«01_k».proof.Proof.Rvq.Layer

@[expose] public section

noncomputable section

namespace Cert.Rvq

open Idealize.ShloMosaic Idealize.ShloMosaic.StableHlo Idealize.SL.Sem Cert.ReferenceIdeal Cert.ReferenceIdeal.Gen

/-- Codebook `q` of the argument. -/
def slab (c : FVec Ideal S8x1024x256 .f32) (q : Nat) : FVec Ideal S1024x256 .f32 :=
  fun y => c (ix3 (Fin.ofNat 8 q) (y 0) (y 1))

/-- The slice and reshape of the argument is that codebook. -/
theorem slab_eq (c : FVec Ideal S8x1024x256 .f32) (q : Nat) (hq : q < 8) (h : S8x1024x256.Slices ![q, 0, 0] S1x1024x256) :
    shapeCast S1024x256 (extractStridedSlice S1x1024x256 ![q, 0, 0] c h) shapeCasts_S1x1024x256_S1024x256 = slab c q := by
  funext y
  obtain ⟨k, j, rfl⟩ : ∃ k j, y = ix2 k j := ⟨y 0, y 1, eq_ix2 y⟩
  rw [shapeCast_apply _ _ (ix2 k j) (ix3 0 k j) (by
    rw [Shape.rowMajor_val_three, Shape.rowMajor_val_two]; simp)]
  refine extractStridedSlice_apply _ _ _ _ _ fun a => ?_
  fin_cases a <;> simp [Nat.mod_eq_of_lt hq]

/-- The residual stage `n` starts from. -/
def refResid (x c : FVec Ideal S8x1024x256 .f32) : Nat → FVec Ideal S8x1024x256 .f32
  | 0 => x
  | n + 1 => subf (refResid x c n) (refOut (refResid x c n) (slab c n))

/-- The quantized output after `n` stages. -/
def refTotal (x c : FVec Ideal S8x1024x256 .f32) : Nat → FVec Ideal S8x1024x256 .f32
  | 0 => broadcastInDim S8x1024x256 ![] bcast_S_S8x1024x256 (constant S_ .f32 0x00000000#32)
  | n + 1 => addf (refTotal x c n) (refOut (refResid x c n) (slab c n))

/-- The indices of stage `n`, with a trailing axis. -/
def idsPiece (x c : FVec Ideal S8x1024x256 .f32) (n : Nat) : IVec S8x1024x1 32 :=
  broadcastInDim S8x1024x1 ![0, 1] bcast_S8x1024_S8x1024x1_0_1 (refIds (refResid x c n) (slab c n))

/-- The loss of stage `n`, with an axis. -/
def lossPiece (x c : FVec Ideal S8x1024x256 .f32) (n : Nat) : FVec Ideal S1 .f32 :=
  broadcastInDim S1 ![] bcast_S_S1 (refLoss (refResid x c n) (slab c n))

/-- The indices of all stages. -/
def refIndices (x c : FVec Ideal S8x1024x256 .f32) : IVec S8x1024x8 32 :=
  concatenate S8x1024x8 2 [⟨S8x1024x1, idsPiece x c 0⟩, ⟨S8x1024x1, idsPiece x c 1⟩, ⟨S8x1024x1, idsPiece x c 2⟩,
      ⟨S8x1024x1, idsPiece x c 3⟩, ⟨S8x1024x1, idsPiece x c 4⟩, ⟨S8x1024x1, idsPiece x c 5⟩,
      ⟨S8x1024x1, idsPiece x c 6⟩, ⟨S8x1024x1, idsPiece x c 7⟩]
    concatenates_S8x1024x1_S8x1024x1_S8x1024x1_S8x1024x1_S8x1024x1_S8x1024x1_S8x1024x1_S8x1024x1_S8x1024x8_d2

/-- The losses of all stages. -/
def refLosses (x c : FVec Ideal S8x1024x256 .f32) : FVec Ideal S8 .f32 :=
  concatenate S8 0 [⟨S1, lossPiece x c 0⟩, ⟨S1, lossPiece x c 1⟩, ⟨S1, lossPiece x c 2⟩, ⟨S1, lossPiece x c 3⟩,
      ⟨S1, lossPiece x c 4⟩, ⟨S1, lossPiece x c 5⟩, ⟨S1, lossPiece x c 6⟩, ⟨S1, lossPiece x c 7⟩]
    concatenates_S1_S1_S1_S1_S1_S1_S1_S1_S8_d0

/-- One stage of the chain, read from its equations. -/
theorem stage_step {x c X Xn Out T Tn : FVec Ideal S8x1024x256 .f32} {S : FVec Ideal S1x1024x256 .f32}
    {E : FVec Ideal S1024x256 .f32} {I : IVec S8x1024 32} {U : IVec S8x1024x1 32} {L : FVec Ideal S_ .f32}
    {V : FVec Ideal S1 .f32} {n : Nat} (hn : n < 8) {h : S8x1024x256.Slices ![n, 0, 0] S1x1024x256}
    (hX : X = refResid x c n ∧ T = refTotal x c n) (hS : S = extractStridedSlice S1x1024x256 ![n, 0, 0] c h)
    (hE : E = shapeCast S1024x256 S shapeCasts_S1x1024x256_S1024x256)
    (hO : Out = refOut X E ∧ I = refIds X E ∧ L = refLoss X E) (hXn : Xn = subf X Out) (hTn : Tn = addf T Out)
    (hU : U = broadcastInDim S8x1024x1 ![0, 1] bcast_S8x1024_S8x1024x1_0_1 I)
    (hV : V = broadcastInDim S1 ![] bcast_S_S1 L) :
    (Xn = refResid x c (n + 1) ∧ Tn = refTotal x c (n + 1)) ∧ U = idsPiece x c n ∧ V = lossPiece x c n := by
  obtain ⟨rfl, rfl⟩ := hX
  obtain ⟨rfl, rfl, rfl⟩ := hO
  subst hXn hTn hU hV
  rw [hS, slab_eq c n hn] at hE
  subst hE
  exact ⟨⟨rfl, rfl⟩, rfl, rfl⟩

/-- A function of eight values at equal ones. -/
theorem congr_pieces {α β : Type} {a b c d e f g h a' b' c' d' e' f' g' h' : α} (ha : a = a') (hb : b = b') (hc : c = c')
    (hd : d = d') (he : e = e') (hf : f = f') (hg : g = g') (hh : h = h') (k : α → α → α → α → α → α → α → α → β) :
    k a b c d e f g h = k a' b' c' d' e' f' g' h' := by
  subst ha hb hc hd he hf hg hh
  rfl

/-- The first stage's buffers as any other stage's. -/
def sameBufs (φ : fn_vq_layer.Bufs) : fn_vq_layer_0.Bufs where
  v0 := φ.v0
  v1 := φ.v1
  cst := φ.cst
  v2 := φ.v2
  v3 := φ.v3
  cst_0 := φ.cst_0
  v4 := φ.v4
  v5 := φ.v5
  v6 := φ.v6
  v7 := φ.v7
  v8 := φ.v8
  v9 := φ.v9
  v10 := φ.v10
  cst_1 := φ.cst_1
  v11 := φ.v11
  v12 := φ.v12
  v13 := φ.v13
  v14 := φ.v14
  call0 := φ.call0
  call1 := φ.call1
  v17 := φ.v17
  v18 := φ.v18
  v19 := φ.v19
  cst_2 := φ.cst_2
  v20 := φ.v20
  cst_3 := φ.cst_3
  v21 := φ.v21
  v22 := φ.v22
  v23 := φ.v23
  v24 := φ.v24

/-- The first stage's operations are any other stage's. -/
theorem first_line (a : Nat) (x : TRef sig ⟨S8x1024x256, .f32⟩) (e : TRef sig ⟨S1024x256, .f32⟩) (φ : fn_vq_layer.Bufs)
    (hx : num τ x.ref < a) (he : num τ e.ref < a) (hφ : Numbered a (sameBufs φ)) :
    RefLine a (a + 56) (fn_vq_layer.body (F := Ideal) x e φ) fun W =>
      get W φ.v23 = refOut (get W x) (get W e) ∧ get W φ.v24 = refIds (get W x) (get W e)
        ∧ get W φ.v21 = refLoss (get W x) (get W e) :=
  layer_line a x e (sameBufs φ) hx he hφ

/-- What the reference's buffers hold at its end. -/
def RefEnd (W : Valuation τ sig (Elt Ideal)) : Prop :=
  W (Proc.devRef .tc main_v40) = refTotal (W (Proc.devRef .tc main_arg0)) (W (Proc.devRef .tc main_arg1)) 8
  ∧ W (Proc.devRef .tc main_v49) = refIndices (W (Proc.devRef .tc main_arg0)) (W (Proc.devRef .tc main_arg1))
  ∧ W (Proc.devRef .tc main_v58) = refLosses (W (Proc.devRef .tc main_arg0)) (W (Proc.devRef .tc main_arg1))

set_option maxHeartbeats 8000000 in
theorem part0_line (d : Dev nD) : RefLine 2 502 (main_part0 (F := Ideal) d) RefEnd := by
  apply Line.mono
  case h =>
    unfold main_part0
    repeat' first
      | with_reducible apply Line.bind
      | exact layer_line _ _ _ _ (by decide) (by decide) ⟨rfl, rfl, rfl, rfl⟩
      | exact first_line _ _ _ _ (by decide) (by decide) ⟨rfl, rfl, rfl, rfl⟩
      | exact Line.plainUnary _ _ _ _ _ rfl (by decide)
      | exact Line.plainBinary _ _ _ _ _ _ _ rfl (by decide) (by decide)
      | exact Line.plainReshape _ _ _ _ _ _ rfl (by decide)
      | exact Line.plainNullary _ _ _ rfl
      | exact Line.plainNary _ _ _ _ _ rfl (by decide)
  case hE =>
    rintro W
      ⟨c, z, s0, r0, o0, x0, t0, s1, r1, o1, x1, t1, s2, r2, o2, x2, t2, s3, r3, o3, x3, t3, s4, r4, o4, x4, t4,
      s5, r5, o5, x5, t5, s6, r6, o6, x6, t6, s7, r7, o7, x7, t7, u0, u1, u2, u3, u4, u5, u6, u7, n, w0, w1,
      w2, w3, w4, w5, w6, w7, k⟩
    obtain ⟨h0, i0, l0⟩ := stage_step (n := 0) (by decide) ⟨rfl, z.trans (congrArg _ c)⟩ s0 r0 o0 x0 t0 u0 w0
    obtain ⟨h1, i1, l1⟩ := stage_step (n := 1) (by decide) h0 s1 r1 o1 x1 t1 u1 w1
    obtain ⟨h2, i2, l2⟩ := stage_step (n := 2) (by decide) h1 s2 r2 o2 x2 t2 u2 w2
    obtain ⟨h3, i3, l3⟩ := stage_step (n := 3) (by decide) h2 s3 r3 o3 x3 t3 u3 w3
    obtain ⟨h4, i4, l4⟩ := stage_step (n := 4) (by decide) h3 s4 r4 o4 x4 t4 u4 w4
    obtain ⟨h5, i5, l5⟩ := stage_step (n := 5) (by decide) h4 s5 r5 o5 x5 t5 u5 w5
    obtain ⟨h6, i6, l6⟩ := stage_step (n := 6) (by decide) h5 s6 r6 o6 x6 t6 u6 w6
    obtain ⟨h7, i7, l7⟩ := stage_step (n := 7) (by decide) h6 s7 r7 o7 x7 t7 u7 w7
    refine ⟨h7.2, n.trans ?_, k.trans ?_⟩
    · exact (congr_pieces i0 i1 i2 i3 i4 i5 i6 i7 fun a b c d e f g h => concatenate S8x1024x8 2 [⟨S8x1024x1, a⟩,
        ⟨S8x1024x1, b⟩, ⟨S8x1024x1, c⟩, ⟨S8x1024x1, d⟩, ⟨S8x1024x1, e⟩, ⟨S8x1024x1, f⟩, ⟨S8x1024x1, g⟩, ⟨S8x1024x1, h⟩]
        concatenates_S8x1024x1_S8x1024x1_S8x1024x1_S8x1024x1_S8x1024x1_S8x1024x1_S8x1024x1_S8x1024x1_S8x1024x8_d2)
    · exact (congr_pieces l0 l1 l2 l3 l4 l5 l6 l7 fun a b c d e f g h => concatenate S8 0 [⟨S1, a⟩, ⟨S1, b⟩, ⟨S1, c⟩,
        ⟨S1, d⟩, ⟨S1, e⟩, ⟨S1, f⟩, ⟨S1, g⟩, ⟨S1, h⟩] concatenates_S1_S1_S1_S1_S1_S1_S1_S1_S8_d0)

theorem main_line (d : Dev nD) : RefLine 2 502 (main (F := Ideal) d) RefEnd :=
  (Line.bind (part0_line d) Line.nil).mono fun _ h => h.1

/-- Every execution of the reference ends with its results at the chain of its stages, its arguments as they were and
    no semaphore raised. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ d : Dev nD,
        let x := m ((d.tc : Thread nD τ).loc main_arg0)
        let c := m ((d.tc : Thread nD τ).loc main_arg1)
        r.2.mem ((d.tc : Thread nD τ).loc main_v40) = refTotal x c 8
        ∧ r.2.mem ((d.tc : Thread nD τ).loc main_v49) = refIndices x c
        ∧ r.2.mem ((d.tc : Thread nD τ).loc main_v58) = refLosses x c
        ∧ r.2.mem ((d.tc : Thread nD τ).loc main_arg0) = x
        ∧ r.2.mem ((d.tc : Thread nD τ).loc main_arg1) = c)
      ∧ r.2.sem = fun _ => 0 := by
  refine θ_run_mono (Line.run (by decide) (by decide) defs main main_line m ρ) fun r hr =>
    ⟨fun d => ?_, sem_eq_zero_of_no_sems (by decide) _⟩
  obtain ⟨W, hW, ⟨h1, h2, h3⟩, hk⟩ := hr d
  have k0 := hk main_arg0 (by decide)
  have k1 := hk main_arg1 (by decide)
  rw [k0, k1] at h1 h2 h3
  exact ⟨(hW _).trans h1, (hW _).trans h2, (hW _).trans h3, (hW _).trans k0, (hW _).trans k1⟩

end Cert.Rvq
-- ==== Proof.Rvq.RefChain.lean ====
/- The reference's results, read as the chain of stages on every row of its first argument. -/
module

public import proofs.«01_k».proof.Proof.Rvq.RefRows
public import proofs.«01_k».proof.Proof.Rvq.Reference

@[expose] public section

noncomputable section

namespace Cert.Rvq

open Idealize.ShloMosaic Cert.ReferenceIdeal Cert.ReferenceIdeal.Gen

/-- The codebooks, by stage. -/
def books (c : FVec Ideal S8x1024x256 .f32) (q : Nat) : Book := fun k j => c (ix3 (Fin.ofNat 8 q) k j)

theorem codesOf_slab (c : FVec Ideal S8x1024x256 .f32) (q : Nat) : codesOf (slab c q) = books c q := rfl

theorem tok_refResid (x c : FVec Ideal S8x1024x256 .f32) (b : Fin 8) (t : Fin 1024) (n : Nat) :
    tok (refResid x c n) b t = resid (tok x b t) (books c) n := by
  induction n with
  | zero => rfl
  | succ n ih =>
    have h : tok (refResid x c (n + 1)) b t
        = fun j => tok (refResid x c n) b t j - tok (refOut (refResid x c n) (slab c n)) b t j := rfl
    rw [h, tok_refOut, ih, codesOf_slab]
    rfl

theorem tok_refTotal (x c : FVec Ideal S8x1024x256 .f32) (b : Fin 8) (t : Fin 1024) (n : Nat) :
    tok (refTotal x c n) b t = total (tok x b t) (books c) n := by
  induction n with
  | zero =>
    funext j
    exact Ideal.ofBits_zero FTy.f32
  | succ n ih =>
    have h : tok (refTotal x c (n + 1)) b t
        = fun j => tok (refTotal x c n) b t j + tok (refOut (refResid x c n) (slab c n)) b t j := rfl
    rw [h, tok_refOut, ih, tok_refResid, codesOf_slab]
    rfl

theorem idsPiece_apply (x c : FVec Ideal S8x1024x256 .f32) (n : Nat) (b : Fin 8) (t : Fin 1024) :
    idsPiece x c n (ix3 b t 0) = BitVec.ofNat 32 (index (tok x b t) (books c) n).val := by
  unfold idsPiece
  rw [broadcastInDim_apply _ _ _ _ (ix2 b t) (fun a => by fin_cases a <;> rfl), refIds_apply, tok_refResid, codesOf_slab]
  rfl

theorem lossPiece_apply (x c : FVec Ideal S8x1024x256 .f32) (n : Nat) :
    lossPiece x c n (ix1 0) = Ideal.div (∑ b, ∑ t, ∑ j, err (tok x b t) (books c) n j)
      (Ideal.ofBits .f32 0x4A000000#32) := by
  refine (refLoss_apply (refResid x c n) (slab c n)).trans ?_
  simp only [tok_refResid, codesOf_slab]
  rfl

/-- The reference's first result. -/
theorem refTotal_apply (x c : FVec Ideal S8x1024x256 .f32) (b : Fin 8) (t : Fin 1024) (j : Fin 256) :
    refTotal x c 8 (ix3 b t j) = total (tok x b t) (books c) 8 j := congrFun (tok_refTotal x c b t 8) j

/-- The reference's second result. -/
theorem refIndices_apply (x c : FVec Ideal S8x1024x256 .f32) (b : Fin 8) (t : Fin 1024) (q : Fin 8) :
    refIndices x c (ix3 b t q) = BitVec.ofNat 32 (index (tok x b t) (books c) q.val).val := by
  rw [← idsPiece_apply]
  exact concatenate_apply_piece 2 _ _ (ix3 b t q) q.val (by simp) S8x1024x1 (idsPiece x c q.val)
    (by fin_cases q <;> rfl) rfl q.val (by fin_cases q <;> rfl) (ix3 b t 0)
    (fun a ha => by fin_cases a <;> first | rfl | exact absurd rfl ha) (by simp)

/-- The reference's third result. -/
theorem refLosses_apply (x c : FVec Ideal S8x1024x256 .f32) (q : Fin 8) :
    refLosses x c (ix1 q) = Ideal.div (∑ b, ∑ t, ∑ j, err (tok x b t) (books c) q.val j)
      (Ideal.ofBits .f32 0x4A000000#32) := by
  rw [← lossPiece_apply]
  exact concatenate_apply_piece 0 _ _ (ix1 q) q.val (by simp) S1 (lossPiece x c q.val)
    (by fin_cases q <;> rfl) rfl q.val (by fin_cases q <;> rfl) (ix1 0)
    (fun a ha => by fin_cases a; exact absurd rfl ha) (by simp)

end Cert.Rvq
-- ==== Proof.Rvq.Result.lean ====
/- The kernel's three results are the reference's, for codebooks of finite numbers. -/
module

public import proofs.«01_k».proof.Proof.Rvq.Arrays
public import proofs.«01_k».proof.Proof.Rvq.RefChain

@[expose] public section

noncomputable section

namespace Cert.Rvq

open Idealize.ShloMosaic Cert.KernelIdeal Cert.KernelIdeal.Gen

/-- An array of rows in batches. -/
local notation "Rows" => FVec Ideal S8x1024x256 FTy.f32

/-- All rows, one under the other. -/
def flat (x : Rows) : FVec Ideal S8192x256 .f32 := shapeCast S8192x256 x shapeCasts_S8x1024x256_S8192x256

/-- A row among all rows is its batch's. -/
theorem rowOf_flat (x : Rows) (b : Fin 8) (t : Fin 1024) : rowOf (flat x) (comb b t) = tok x b t :=
  funext fun j => flat_apply x b t j

/-- The first result. -/
theorem total_eq (x c : Rows) : shapeCast S8x1024x256 (gTotal (flat x) c) shapeCasts_S8192x256_S8x1024x256 = refTotal x c 8 := by
  funext y
  obtain ⟨b, t, j, rfl⟩ : ∃ b t j, y = ix3 b t j := ⟨y 0, y 1, y 2, eq_ix3 y⟩
  rw [refTotal_apply, ← rowOf_flat]
  exact shapeCast_apply _ _ _ (ix2 (comb b t) j) (by
    rw [Shape.rowMajor_val_three, Shape.rowMajor_val_two]
    simp [comb])

/-- The second result. -/
theorem index_eq (x c : Rows) : shapeCast S8x1024x8 (gIndex (flat x) c) shapeCasts_S8192x8_S8x1024x8 = refIndices x c := by
  funext y
  obtain ⟨b, t, q, rfl⟩ : ∃ b t q, y = ix3 b t q := ⟨y 0, y 1, y 2, eq_ix3 y⟩
  rw [refIndices_apply, ← rowOf_flat]
  exact shapeCast_apply _ _ _ (ix2 (comb b t) q) (by
    rw [Shape.rowMajor_val_three, Shape.rowMajor_val_two]
    simp [comb])

/-- A sum over the rows of every block is the sum over the rows of every batch. -/
theorem sum_blocks (f : Fin 8192 → EReal) : ∑ s, ∑ i, f (place s i) = ∑ b, ∑ t, f (comb b t) := by
  have h1 : ∑ s, ∑ i, f (place s i) = ∑ n, f n := by
    rw [← Fintype.sum_prod_type']
    exact Fintype.sum_equiv (finProdFinEquiv (m := 4) (n := 2048)) _ _ fun p => congrArg f (Fin.ext (by
      simp [place, finProdFinEquiv]; omega))
  have h2 : ∑ b, ∑ t, f (comb b t) = ∑ n, f n := by
    rw [← Fintype.sum_prod_type']
    exact Fintype.sum_equiv (finProdFinEquiv (m := 8) (n := 1024)) _ _ fun p => congrArg f (Fin.ext (by
      simp [comb, finProdFinEquiv]; omega))
  exact h1.trans h2.symm

/-- The third result. -/
theorem losses_eq (x c : Rows) : kLosses (gLoss (flat x) c) = refLosses x c := by
  funext y
  obtain ⟨q, rfl⟩ : ∃ q, y = ix1 q := ⟨y 0, eq_ix1 y⟩
  rw [refLosses_apply]
  unfold kLosses
  rw [ValueIdx.hostDivf_apply, shapeCast_apply _ _ _ (ix2 0 q) (by
      rw [Shape.rowMajor_val_one, Shape.rowMajor_val_two]
      simp),
    ValueIdx.hostReduceAdd_apply, Ideal.hostReduceAdd_r3_a0]
  refine congrArg₂ Ideal.div (((congrArg (· + _) (Ideal.ofBits_zero FTy.f32)).trans (zero_add _)).trans ?_) rfl
  refine (sum_blocks fun n => ∑ j, err (rowOf (flat x) n) (kBooks c) q.val j).trans ?_
  refine Finset.sum_congr rfl fun b _ => Finset.sum_congr rfl fun t _ => ?_
  rw [rowOf_flat]
  rfl

end Cert.Rvq
-- ==== Proof.Rvq.KernelRun.lean ====
/- The kernel's run: its three results are the reference's functions of its arguments, for codebooks of finite numbers. -/
module

public import proofs.«01_k».proof.Proof.Rvq.Result

@[expose] public section

noncomputable section

namespace Cert.Rvq

open Idealize.ShloMosaic Idealize.SL.Sem Cert.KernelIdeal Cert.KernelIdeal.Gen

/-- Every execution of the kernel ends with the reference's results and its arguments unchanged. -/
theorem kernel_run (m : (ℓ : Loc nD τ sig) → Buf (Elt Ideal) ℓ) (ρ : Dev nD → PrngReg)
    (hm : ∀ d : Dev nD, ∀ q, Finite (kBooks (m ((d.tc : Thread nD τ).loc main_arg1)) q)) :
    θ_run (defs (F := Ideal)) (onTc (τ := τ) (main (F := Ideal))) ⟨m, fun _ => 0, ρ⟩ fun r =>
      ∀ d : Dev nD,
        r.2.mem ((d.tc : Thread nD τ).loc main_v2)
          = refTotal (m ((d.tc : Thread nD τ).loc main_arg0)) (m ((d.tc : Thread nD τ).loc main_arg1)) 8
        ∧ r.2.mem ((d.tc : Thread nD τ).loc main_v3)
          = refIndices (m ((d.tc : Thread nD τ).loc main_arg0)) (m ((d.tc : Thread nD τ).loc main_arg1))
        ∧ r.2.mem ((d.tc : Thread nD τ).loc main_v7)
          = refLosses (m ((d.tc : Thread nD τ).loc main_arg0)) (m ((d.tc : Thread nD τ).loc main_arg1))
        ∧ r.2.mem ((d.tc : Thread nD τ).loc main_arg0) = m ((d.tc : Thread nD τ).loc main_arg0)
        ∧ r.2.mem ((d.tc : Thread nD τ).loc main_arg1) = m ((d.tc : Thread nD τ).loc main_arg1) := by
  refine θ_run_mono (θ_run_and (run_main m ρ) (unchanged m ρ)) fun r h d => ?_
  have hx : V m d main_v0 = flat (m ((d.tc : Thread nD τ).loc main_arg0)) := entry_v0 m d
  have hv : V m d main_arg1 = m ((d.tc : Thread nD τ).loc main_arg1) := V_main_arg1 m d
  have hc : ∀ q, Finite (kBooks (V m d main_arg1) q) := fun q => by rw [hv]; exact hm d q
  refine ⟨?_, ?_, ?_, h.2 d⟩
  · refine ((h.1 d).2 main_v2 (Pipeline.mem_restRefs_of main_v2 (by decide) (by decide))).trans ?_
    refine (final_v2 m d).trans ?_
    rw [array_2 m d hc, hx, hv]
    exact total_eq _ _
  · refine ((h.1 d).2 main_v3 (Pipeline.mem_restRefs_of main_v3 (by decide) (by decide))).trans ?_
    refine (final_v3 m d).trans ?_
    rw [array_3 m d hc, hx, hv]
    exact index_eq _ _
  · refine ((h.1 d).2 main_v7 (Pipeline.mem_restRefs_of main_v7 (by decide) (by decide))).trans ?_
    refine (final_v7 m d).trans ?_
    rw [array_4 m d hc, hx, hv]
    exact losses_eq _ _

end Cert.Rvq
-- ==== Proof.Rvq.Codebooks.lean ====
/- What the precondition says of the codebooks. -/
module

public import proofs.«01_k».proof.Proof.Gen.Pre_codebooks_finite
public import proofs.«01_k».proof.Proof.Rvq.Rows

@[expose] public section

noncomputable section

namespace Cert.Rvq

open Idealize.ShloMosaic Cert.KernelIdeal Cert.KernelIdeal.Gen

/-- The float constant minus infinity is the bottom element. -/
theorem ofBits_neg_inf : Ideal.ofBits .f32 0xFF800000#32 = ⊥ := by
  simp [Ideal.ofBits, Ideal.ieee, -EReal.coe_mul]

/-- A conjunction of two bits is one when both are. -/
theorem and_one : ∀ a b : BitVec 1, a &&& b = 1#1 → a = 1#1 ∧ b = 1#1 := by decide

/-- The precondition at an entry: below infinity and above minus infinity. -/
theorem entry_finite (x c : FVec Ideal S8x1024x256 .f32) (h : Cert.Pre_codebooks_finite.fn (F := Ideal) x c = fun _ => 1#1)
    (y : S8x1024x256.Idx) : c y ≠ (⊤ : EReal) ∧ c y ≠ (⊥ : EReal) := by
  obtain ⟨h1, h2⟩ := and_one _ _ (congrFun h y)
  have h1' : Ideal.cmp .olt (c y) (Ideal.ofBits .f32 0x7F800000#32) = 1#1 := h1
  have h2' : Ideal.cmp .ogt (c y) (Ideal.ofBits .f32 0xFF800000#32) = 1#1 := h2
  rw [ofBits_inf] at h1'
  rw [ofBits_neg_inf] at h2'
  constructor
  · intro e
    rw [e] at h1'
    simp [Ideal.cmp] at h1'
  · intro e
    rw [e] at h2'
    simp [Ideal.cmp] at h2'

/-- Every codebook holds finite numbers. -/
theorem codebooks_finite (x c : FVec Ideal S8x1024x256 .f32)
    (h : Cert.Pre_codebooks_finite.fn (F := Ideal) x c = fun _ => 1#1) (q : Nat) : Finite (kBooks c q) :=
  fun k j => entry_finite x c h (ix3 (Fin.ofNat 8 q) k j)

end Cert.Rvq
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_codebooks_finite
public import proofs.«01_k».proof.Proof.Rvq.KernelRun
public import proofs.«01_k».proof.Proof.Rvq.Codebooks

@[expose] public section

noncomputable section

namespace Cert.Proof

open Idealize.ShloMosaic Idealize.SL.Sem

/-- The reference terminates, its arguments end unchanged and every counter ends at zero. -/
theorem reference_frame : Cert.quiescent_ReferenceIdeal (hReferenceIdeal := Cert.ReferenceIdeal.Gen.facts) := fun m ρ _ =>
  θ_run_mono (Cert.Rvq.reference_run m ρ) fun _ h => ⟨fun d => (h.1 d).2.2.2, h.2⟩

/-- The kernel and the reference end with the same three results, for codebooks of finite numbers. -/
theorem same_results : Cert.algebraic_KernelIdeal_ReferenceIdeal_pre_codebooks_finite
    (hKernelIdeal := Cert.KernelIdeal.Gen.facts) (hReferenceIdeal := Cert.ReferenceIdeal.Gen.facts)
    (hPre_codebooks_finite := Cert.Pre_codebooks_finite.Gen.facts) := fun m g m' g' hm hagree =>
  ⟨_, _, _, Cert.Rvq.kernel_run m g fun d q => Cert.Rvq.codebooks_finite _ _ (hm d) q,
    θ_run_mono (Cert.Rvq.reference_run m' g') fun r h d => by
      obtain ⟨h1, h2, h3, h4, h5⟩ := h.1 d
      obtain ⟨e0, e1⟩ := hagree d
      refine ⟨h1.trans ?_, h2.trans ?_, h3.trans ?_, h4, h5⟩
      · exact congrArg₂ (fun x c => Cert.Rvq.refTotal x c 8) e0 e1
      · exact congrArg₂ Cert.Rvq.refIndices e0 e1
      · exact congrArg₂ Cert.Rvq.refLosses e0 e1⟩

theorem claim : Cert.Claim :=
  ⟨Cert.Kernel.Gen.facts, Cert.KernelIdeal.Gen.facts, Cert.ReferenceIdeal.Gen.facts, Cert.Pre_codebooks_finite.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    same_results⟩

end Cert.Proof

end
